-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x30x76x76 : Shape := ⟨4, ![64, 30, 76, 76]⟩
abbrev S30x76x64x76 : Shape := ⟨4, ![30, 76, 64, 76]⟩
abbrev S_ : Shape := ⟨0, ![]⟩
abbrev S30x76x64x128 : Shape := ⟨4, ![30, 76, 64, 128]⟩
abbrev S10x64x17328 : Shape := ⟨3, ![10, 64, 17328]⟩
abbrev S2x228x76 : Shape := ⟨3, ![2, 228, 76]⟩
abbrev S17328 : Shape := ⟨1, ![17328]⟩
abbrev S16 : Shape := ⟨1, ![16]⟩
abbrev S1x76x76 : Shape := ⟨3, ![1, 76, 76]⟩
abbrev S76x76 : Shape := ⟨2, ![76, 76]⟩
abbrev S1x76x1x76 : Shape := ⟨4, ![1, 76, 1, 76]⟩
abbrev S1x1x16 : Shape := ⟨3, ![1, 1, 16]⟩
abbrev S1x1x17328 : Shape := ⟨3, ![1, 1, 17328]⟩
abbrev S64x17328x10 : Shape := ⟨3, ![64, 17328, 10]⟩

abbrev nBuf : Table → Nat
  | .hbm => 7
  | .local .scVector .vmem => 3
  | _ => 0

abbrev bufTy : (tb : Table) → Fin (nBuf tb) → BufTy
  | .hbm, ⟨0, _⟩ => ⟨S64x30x76x76, .f32⟩
  | .hbm, ⟨1, _⟩ => ⟨S30x76x64x76, .f32⟩
  | .hbm, ⟨2, _⟩ => ⟨S_, .i32⟩
  | .hbm, ⟨3, _⟩ => ⟨S_, .f32⟩
  | .hbm, ⟨4, _⟩ => ⟨S30x76x64x128, .f32⟩
  | .hbm, ⟨5, _⟩ => ⟨S10x64x17328, .f32⟩
  | .hbm, ⟨6, _⟩ => ⟨S64x17328x10, .f32⟩
  | .local .scVector .vmem, ⟨0, _⟩ => ⟨S2x228x76, .f32⟩
  | .local .scVector .vmem, ⟨1, _⟩ => ⟨S17328, .f32⟩
  | .local .scVector .vmem, ⟨2, _⟩ => ⟨S17328, .f32⟩
  | _, _ => ⟨S64x30x76x76, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let c0_i32_0 : BitVec 32 := 0#32
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v1 c0_i32
  let c0_i32_5 : BitVec 32 := 0#32
  ![0, 0, v4.toNat, 0]
def k0_off2 (i : grid0.Coords) (c0_i32 : BitVec 32) : Fin 4 → Nat :=
  let c10_i32 : BitVec 32 := 10#32
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v1 c0_i32
  let c0_i32_13 : BitVec 32 := 0#32
  ![10, 0, v4.toNat, 0]
def k0_off3 (i : grid0.Coords) (c0_i32 : BitVec 32) : Fin 4 → Nat :=
  let c20_i32 : BitVec 32 := 20#32
  let c0_i32_20 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v1 c0_i32
  let c0_i32_21 : BitVec 32 := 0#32
  ![20, 0, v4.toNat, 0]
@[reducible] def k0_t1_loop : Scf.Loop 32 :=
  let c0_i32_86 : BitVec 32 := 0#32
  let c228_i32 : BitVec 32 := 228#32
  let v79 : BitVec 32 := Scalar.addi c0_i32_86 c228_i32
  let c1_i32_87 : BitVec 32 := 1#32
  ⟨c0_i32_86, v79, c1_i32_87⟩
def k0_off4 (k0_t1 : Fin k0_t1_loop.trips) : Fin 3 → Nat :=
  let c0_i32_1410 : BitVec 32 := 0#32
  let v1187 : Index := Scalar.indexCast c0_i32_1410
  let c0_i32_1408 : BitVec 32 := 0#32
  let c0_i32_86 : BitVec 32 := 0#32
  let c1_i32_87 : BitVec 32 := 1#32
  let arg11 : BitVec 32 := Scf.iv c0_i32_86 c1_i32_87 k0_t1
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off5 (k0_t1 : Fin k0_t1_loop.trips) (c0_i32_1416 : BitVec 32) : Fin 1 → Nat :=
  let c0_i32_1408 : BitVec 32 := 0#32
  let c0_i32_86 : BitVec 32 := 0#32
  let c1_i32_87 : BitVec 32 := 1#32
  let arg11 : BitVec 32 := Scf.iv c0_i32_86 c1_i32_87 k0_t1
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1205 : BitVec 32 := Scalar.addi v1186 c0_i32_1416
  let v1206 : Index := Scalar.indexCast v1205
  ![v1206.toNat]
def k0_off5_at (r : Fin 5) : BitVec 32 :=
  if r.val < 2 then
    if r.val < 1 then
      0#32
    else
      16#32
  else
    if r.val < 3 then
      32#32
    else
      if r.val < 4 then
        48#32
      else
        60#32
def k0_off6 (k0_t1 : Fin k0_t1_loop.trips) : Fin 3 → Nat :=
  let c0_i32_1417 : BitVec 32 := 0#32
  let v1210 : Index := Scalar.indexCast c0_i32_1417
  let c0_i32_1408 : BitVec 32 := 0#32
  let c0_i32_86 : BitVec 32 := 0#32
  let c1_i32_87 : BitVec 32 := 1#32
  let arg11 : BitVec 32 := Scf.iv c0_i32_86 c1_i32_87 k0_t1
  let c1_i32_1407 : BitVec 32 := 1#32
  let v1184 : BitVec 32 := Scalar.muli arg11 c1_i32_1407
  let v1185 : BitVec 32 := Scalar.addi c0_i32_1408 v1184
  let v1211 : Index := Scalar.indexCast v1185
  let c16 : Index := 16#32
  ![0, v1211.toNat, 16]
def k0_off7 (k0_t1 : Fin k0_t1_loop.trips) : Fin 3 → Nat :=
  let c0_i32_1425 : BitVec 32 := 0#32
  let v1233 : Index := Scalar.indexCast c0_i32_1425
  let c0_i32_1408 : BitVec 32 := 0#32
  let c0_i32_86 : BitVec 32 := 0#32
  let c1_i32_87 : BitVec 32 := 1#32
  let arg11 : BitVec 32 := Scf.iv c0_i32_86 c1_i32_87 k0_t1
  let c1_i32_1407 : BitVec 32 := 1#32
  let v1184 : BitVec 32 := Scalar.muli arg11 c1_i32_1407
  let v1185 : BitVec 32 := Scalar.addi c0_i32_1408 v1184
  let v1234 : Index := Scalar.indexCast v1185
  let c32 : Index := 32#32
  ![0, v1234.toNat, 32]
def k0_off8 (k0_t1 : Fin k0_t1_loop.trips) : Fin 3 → Nat :=
  let c0_i32_1433 : BitVec 32 := 0#32
  let v1256 : Index := Scalar.indexCast c0_i32_1433
  let c0_i32_1408 : BitVec 32 := 0#32
  let c0_i32_86 : BitVec 32 := 0#32
  let c1_i32_87 : BitVec 32 := 1#32
  let arg11 : BitVec 32 := Scf.iv c0_i32_86 c1_i32_87 k0_t1
  let c1_i32_1407 : BitVec 32 := 1#32
  let v1184 : BitVec 32 := Scalar.muli arg11 c1_i32_1407
  let v1185 : BitVec 32 := Scalar.addi c0_i32_1408 v1184
  let v1257 : Index := Scalar.indexCast v1185
  let c48 : Index := 48#32
  ![0, v1257.toNat, 48]
def k0_off9 (k0_t1 : Fin k0_t1_loop.trips) : Fin 3 → Nat :=
  let c0_i32_1440 : BitVec 32 := 0#32
  let v1279 : Index := Scalar.indexCast c0_i32_1440
  let c0_i32_1408 : BitVec 32 := 0#32
  let c0_i32_86 : BitVec 32 := 0#32
  let c1_i32_87 : BitVec 32 := 1#32
  let arg11 : BitVec 32 := Scf.iv c0_i32_86 c1_i32_87 k0_t1
  let c1_i32_1407 : BitVec 32 := 1#32
  let v1184 : BitVec 32 := Scalar.muli arg11 c1_i32_1407
  let v1185 : BitVec 32 := Scalar.addi c0_i32_1408 v1184
  let v1280 : Index := Scalar.indexCast v1185
  let c60 : Index := 60#32
  ![0, v1280.toNat, 60]
def k0_off10 (i : grid0.Coords) (c0_i32_26 : BitVec 32) : Fin 3 → Nat :=
  let c0_i32_89 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v29 : BitVec 32 := Scalar.addi v1 c0_i32_26
  let c0_i32_90 : BitVec 32 := 0#32
  ![0, v29.toNat, 0]
def k0_off11 (i : grid0.Coords) (c0_i32_123 : BitVec 32) : Fin 4 → Nat :=
  let c1_i32_124 : BitVec 32 := 1#32
  let c0_i32_128 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v109 : BitVec 32 := Scalar.addi v1 c0_i32_123
  let c0_i32_129 : BitVec 32 := 0#32
  ![1, 0, v109.toNat, 0]
def k0_off12 (i : grid0.Coords) (c0_i32_123 : BitVec 32) : Fin 4 → Nat :=
  let c11_i32 : BitVec 32 := 11#32
  let c0_i32_137 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v109 : BitVec 32 := Scalar.addi v1 c0_i32_123
  let c0_i32_138 : BitVec 32 := 0#32
  ![11, 0, v109.toNat, 0]
def k0_off13 (i : grid0.Coords) (c0_i32_123 : BitVec 32) : Fin 4 → Nat :=
  let c21_i32 : BitVec 32 := 21#32
  let c0_i32_146 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v109 : BitVec 32 := Scalar.addi v1 c0_i32_123
  let c0_i32_147 : BitVec 32 := 0#32
  ![21, 0, v109.toNat, 0]
@[reducible] def k0_t2_loop : Scf.Loop 32 :=
  let c0_i32_152 : BitVec 32 := 0#32
  let c228_i32_153 : BitVec 32 := 228#32
  let v134 : BitVec 32 := Scalar.addi c0_i32_152 c228_i32_153
  let c1_i32_154 : BitVec 32 := 1#32
  ⟨c0_i32_152, v134, c1_i32_154⟩
def k0_off14 (k0_t2 : Fin k0_t2_loop.trips) : Fin 3 → Nat :=
  let c1_i32_1410 : BitVec 32 := 1#32
  let v1187 : Index := Scalar.indexCast c1_i32_1410
  let c0_i32_1408 : BitVec 32 := 0#32
  let c0_i32_152 : BitVec 32 := 0#32
  let c1_i32_154 : BitVec 32 := 1#32
  let arg11 : BitVec 32 := Scf.iv c0_i32_152 c1_i32_154 k0_t2
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off15 (k0_t2 : Fin k0_t2_loop.trips) (c0_i32_1416 : BitVec 32) : Fin 1 → Nat :=
  let c0_i32_1408 : BitVec 32 := 0#32
  let c0_i32_152 : BitVec 32 := 0#32
  let c1_i32_154 : BitVec 32 := 1#32
  let arg11 : BitVec 32 := Scf.iv c0_i32_152 c1_i32_154 k0_t2
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1205 : BitVec 32 := Scalar.addi v1186 c0_i32_1416
  let v1206 : Index := Scalar.indexCast v1205
  ![v1206.toNat]
def k0_off15_at (r : Fin 5) : BitVec 32 :=
  if r.val < 2 then
    if r.val < 1 then
      0#32
    else
      16#32
  else
    if r.val < 3 then
      32#32
    else
      if r.val < 4 then
        48#32
      else
        60#32
def k0_off16 (k0_t2 : Fin k0_t2_loop.trips) : Fin 3 → Nat :=
  let c1_i32_1417 : BitVec 32 := 1#32
  let v1210 : Index := Scalar.indexCast c1_i32_1417
  let c0_i32_1408 : BitVec 32 := 0#32
  let c0_i32_152 : BitVec 32 := 0#32
  let c1_i32_154 : BitVec 32 := 1#32
  let arg11 : BitVec 32 := Scf.iv c0_i32_152 c1_i32_154 k0_t2
  let c1_i32_1407 : BitVec 32 := 1#32
  let v1184 : BitVec 32 := Scalar.muli arg11 c1_i32_1407
  let v1185 : BitVec 32 := Scalar.addi c0_i32_1408 v1184
  let v1211 : Index := Scalar.indexCast v1185
  let c16 : Index := 16#32
  ![1, v1211.toNat, 16]
def k0_off17 (k0_t2 : Fin k0_t2_loop.trips) : Fin 3 → Nat :=
  let c1_i32_1425 : BitVec 32 := 1#32
  let v1233 : Index := Scalar.indexCast c1_i32_1425
  let c0_i32_1408 : BitVec 32 := 0#32
  let c0_i32_152 : BitVec 32 := 0#32
  let c1_i32_154 : BitVec 32 := 1#32
  let arg11 : BitVec 32 := Scf.iv c0_i32_152 c1_i32_154 k0_t2
  let c1_i32_1407 : BitVec 32 := 1#32
  let v1184 : BitVec 32 := Scalar.muli arg11 c1_i32_1407
  let v1185 : BitVec 32 := Scalar.addi c0_i32_1408 v1184
  let v1234 : Index := Scalar.indexCast v1185
  let c32 : Index := 32#32
  ![1, v1234.toNat, 32]
def k0_off18 (k0_t2 : Fin k0_t2_loop.trips) : Fin 3 → Nat :=
  let c1_i32_1433 : BitVec 32 := 1#32
  let v1256 : Index := Scalar.indexCast c1_i32_1433
  let c0_i32_1408 : BitVec 32 := 0#32
  let c0_i32_152 : BitVec 32 := 0#32
  let c1_i32_154 : BitVec 32 := 1#32
  let arg11 : BitVec 32 := Scf.iv c0_i32_152 c1_i32_154 k0_t2
  let c1_i32_1407 : BitVec 32 := 1#32
  let v1184 : BitVec 32 := Scalar.muli arg11 c1_i32_1407
  let v1185 : BitVec 32 := Scalar.addi c0_i32_1408 v1184
  let v1257 : Index := Scalar.indexCast v1185
  let c48 : Index := 48#32
  ![1, v1257.toNat, 48]
def k0_off19 (k0_t2 : Fin k0_t2_loop.trips) : Fin 3 → Nat :=
  let c1_i32_1440 : BitVec 32 := 1#32
  let v1279 : Index := Scalar.indexCast c1_i32_1440
  let c0_i32_1408 : BitVec 32 := 0#32
  let c0_i32_152 : BitVec 32 := 0#32
  let c1_i32_154 : BitVec 32 := 1#32
  let arg11 : BitVec 32 := Scf.iv c0_i32_152 c1_i32_154 k0_t2
  let c1_i32_1407 : BitVec 32 := 1#32
  let v1184 : BitVec 32 := Scalar.muli arg11 c1_i32_1407
  let v1185 : BitVec 32 := Scalar.addi c0_i32_1408 v1184
  let v1280 : Index := Scalar.indexCast v1185
  let c60 : Index := 60#32
  ![1, v1280.toNat, 60]
@[reducible] def k0_t3_loop : Scf.Loop 32 :=
  let c0_i32_224 : BitVec 32 := 0#32
  let c228_i32_225 : BitVec 32 := 228#32
  let v193 : BitVec 32 := Scalar.addi c0_i32_224 c228_i32_225
  let c1_i32_226 : BitVec 32 := 1#32
  ⟨c0_i32_224, v193, c1_i32_226⟩
def k0_off20 (k0_t3 : Fin k0_t3_loop.trips) : Fin 3 → Nat :=
  let c0_i32_1413 : BitVec 32 := 0#32
  let v1196 : Index := Scalar.indexCast c0_i32_1413
  let c0_i32_1408 : BitVec 32 := 0#32
  let c0_i32_224 : BitVec 32 := 0#32
  let c1_i32_226 : BitVec 32 := 1#32
  let arg11 : BitVec 32 := Scf.iv c0_i32_224 c1_i32_226 k0_t3
  let c1_i32_1407 : BitVec 32 := 1#32
  let v1184 : BitVec 32 := Scalar.muli arg11 c1_i32_1407
  let v1185 : BitVec 32 := Scalar.addi c0_i32_1408 v1184
  let v1197 : Index := Scalar.indexCast v1185
  let c0 : Index := 0#32
  ![0, v1197.toNat, 0]
def k0_off21 (k0_t3 : Fin k0_t3_loop.trips) (c0_i32_1418 : BitVec 32) : Fin 1 → Nat :=
  let c0_i32_1408 : BitVec 32 := 0#32
  let c0_i32_224 : BitVec 32 := 0#32
  let c1_i32_226 : BitVec 32 := 1#32
  let arg11 : BitVec 32 := Scf.iv c0_i32_224 c1_i32_226 k0_t3
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1211 : BitVec 32 := Scalar.addi v1186 c0_i32_1418
  let v1212 : Index := Scalar.indexCast v1211
  ![v1212.toNat]
def k0_off21_at (r : Fin 5) : BitVec 32 :=
  if r.val < 2 then
    if r.val < 1 then
      0#32
    else
      16#32
  else
    if r.val < 3 then
      32#32
    else
      if r.val < 4 then
        48#32
      else
        60#32
def k0_off22 (k0_t3 : Fin k0_t3_loop.trips) : Fin 3 → Nat :=
  let c0_i32_1419 : BitVec 32 := 0#32
  let v1216 : Index := Scalar.indexCast c0_i32_1419
  let c0_i32_1408 : BitVec 32 := 0#32
  let c0_i32_224 : BitVec 32 := 0#32
  let c1_i32_226 : BitVec 32 := 1#32
  let arg11 : BitVec 32 := Scf.iv c0_i32_224 c1_i32_226 k0_t3
  let c1_i32_1407 : BitVec 32 := 1#32
  let v1184 : BitVec 32 := Scalar.muli arg11 c1_i32_1407
  let v1185 : BitVec 32 := Scalar.addi c0_i32_1408 v1184
  let v1217 : Index := Scalar.indexCast v1185
  let c16 : Index := 16#32
  ![0, v1217.toNat, 16]
def k0_off23 (k0_t3 : Fin k0_t3_loop.trips) : Fin 3 → Nat :=
  let c0_i32_1425 : BitVec 32 := 0#32
  let v1236 : Index := Scalar.indexCast c0_i32_1425
  let c0_i32_1408 : BitVec 32 := 0#32
  let c0_i32_224 : BitVec 32 := 0#32
  let c1_i32_226 : BitVec 32 := 1#32
  let arg11 : BitVec 32 := Scf.iv c0_i32_224 c1_i32_226 k0_t3
  let c1_i32_1407 : BitVec 32 := 1#32
  let v1184 : BitVec 32 := Scalar.muli arg11 c1_i32_1407
  let v1185 : BitVec 32 := Scalar.addi c0_i32_1408 v1184
  let v1237 : Index := Scalar.indexCast v1185
  let c32 : Index := 32#32
  ![0, v1237.toNat, 32]
def k0_off24 (k0_t3 : Fin k0_t3_loop.trips) : Fin 3 → Nat :=
  let c0_i32_1431 : BitVec 32 := 0#32
  let v1256 : Index := Scalar.indexCast c0_i32_1431
  let c0_i32_1408 : BitVec 32 := 0#32
  let c0_i32_224 : BitVec 32 := 0#32
  let c1_i32_226 : BitVec 32 := 1#32
  let arg11 : BitVec 32 := Scf.iv c0_i32_224 c1_i32_226 k0_t3
  let c1_i32_1407 : BitVec 32 := 1#32
  let v1184 : BitVec 32 := Scalar.muli arg11 c1_i32_1407
  let v1185 : BitVec 32 := Scalar.addi c0_i32_1408 v1184
  let v1257 : Index := Scalar.indexCast v1185
  let c48 : Index := 48#32
  ![0, v1257.toNat, 48]
def k0_off25 (k0_t3 : Fin k0_t3_loop.trips) : Fin 3 → Nat :=
  let c0_i32_1436 : BitVec 32 := 0#32
  let v1276 : Index := Scalar.indexCast c0_i32_1436
  let c0_i32_1408 : BitVec 32 := 0#32
  let c0_i32_224 : BitVec 32 := 0#32
  let c1_i32_226 : BitVec 32 := 1#32
  let arg11 : BitVec 32 := Scf.iv c0_i32_224 c1_i32_226 k0_t3
  let c1_i32_1407 : BitVec 32 := 1#32
  let v1184 : BitVec 32 := Scalar.muli arg11 c1_i32_1407
  let v1185 : BitVec 32 := Scalar.addi c0_i32_1408 v1184
  let v1277 : Index := Scalar.indexCast v1185
  let c60 : Index := 60#32
  ![0, v1277.toNat, 60]
def k0_off26 (i : grid0.Coords) (c0_i32_159 : BitVec 32) : Fin 3 → Nat :=
  let c1_i32_228 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v139 : BitVec 32 := Scalar.addi v1 c0_i32_159
  let c0_i32_229 : BitVec 32 := 0#32
  ![1, v139.toNat, 0]
def k0_off27 (i : grid0.Coords) (c0_i32_262 : BitVec 32) : Fin 4 → Nat :=
  let c2_i32_263 : BitVec 32 := 2#32
  let c0_i32_267 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v223 : BitVec 32 := Scalar.addi v1 c0_i32_262
  let c0_i32_268 : BitVec 32 := 0#32
  ![2, 0, v223.toNat, 0]
def k0_off28 (i : grid0.Coords) (c0_i32_262 : BitVec 32) : Fin 4 → Nat :=
  let c12_i32 : BitVec 32 := 12#32
  let c0_i32_276 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v223 : BitVec 32 := Scalar.addi v1 c0_i32_262
  let c0_i32_277 : BitVec 32 := 0#32
  ![12, 0, v223.toNat, 0]
def k0_off29 (i : grid0.Coords) (c0_i32_262 : BitVec 32) : Fin 4 → Nat :=
  let c22_i32 : BitVec 32 := 22#32
  let c0_i32_285 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v223 : BitVec 32 := Scalar.addi v1 c0_i32_262
  let c0_i32_286 : BitVec 32 := 0#32
  ![22, 0, v223.toNat, 0]
@[reducible] def k0_t4_loop : Scf.Loop 32 :=
  let c0_i32_294 : BitVec 32 := 0#32
  let c228_i32_295 : BitVec 32 := 228#32
  let v252 : BitVec 32 := Scalar.addi c0_i32_294 c228_i32_295
  let c1_i32_296 : BitVec 32 := 1#32
  ⟨c0_i32_294, v252, c1_i32_296⟩
def k0_off30 (k0_t4 : Fin k0_t4_loop.trips) : Fin 3 → Nat :=
  let c1_i32_1413 : BitVec 32 := 1#32
  let v1196 : Index := Scalar.indexCast c1_i32_1413
  let c0_i32_1408 : BitVec 32 := 0#32
  let c0_i32_294 : BitVec 32 := 0#32
  let c1_i32_296 : BitVec 32 := 1#32
  let arg11 : BitVec 32 := Scf.iv c0_i32_294 c1_i32_296 k0_t4
  let c1_i32_1407 : BitVec 32 := 1#32
  let v1184 : BitVec 32 := Scalar.muli arg11 c1_i32_1407
  let v1185 : BitVec 32 := Scalar.addi c0_i32_1408 v1184
  let v1197 : Index := Scalar.indexCast v1185
  let c0 : Index := 0#32
  ![1, v1197.toNat, 0]
def k0_off31 (k0_t4 : Fin k0_t4_loop.trips) (c0_i32_1418 : BitVec 32) : Fin 1 → Nat :=
  let c0_i32_1408 : BitVec 32 := 0#32
  let c0_i32_294 : BitVec 32 := 0#32
  let c1_i32_296 : BitVec 32 := 1#32
  let arg11 : BitVec 32 := Scf.iv c0_i32_294 c1_i32_296 k0_t4
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1211 : BitVec 32 := Scalar.addi v1186 c0_i32_1418
  let v1212 : Index := Scalar.indexCast v1211
  ![v1212.toNat]
def k0_off31_at (r : Fin 5) : BitVec 32 :=
  if r.val < 2 then
    if r.val < 1 then
      0#32
    else
      16#32
  else
    if r.val < 3 then
      32#32
    else
      if r.val < 4 then
        48#32
      else
        60#32
def k0_off32 (k0_t4 : Fin k0_t4_loop.trips) : Fin 3 → Nat :=
  let c1_i32_1419 : BitVec 32 := 1#32
  let v1216 : Index := Scalar.indexCast c1_i32_1419
  let c0_i32_1408 : BitVec 32 := 0#32
  let c0_i32_294 : BitVec 32 := 0#32
  let c1_i32_296 : BitVec 32 := 1#32
  let arg11 : BitVec 32 := Scf.iv c0_i32_294 c1_i32_296 k0_t4
  let c1_i32_1407 : BitVec 32 := 1#32
  let v1184 : BitVec 32 := Scalar.muli arg11 c1_i32_1407
  let v1185 : BitVec 32 := Scalar.addi c0_i32_1408 v1184
  let v1217 : Index := Scalar.indexCast v1185
  let c16 : Index := 16#32
  ![1, v1217.toNat, 16]
def k0_off33 (k0_t4 : Fin k0_t4_loop.trips) : Fin 3 → Nat :=
  let c1_i32_1425 : BitVec 32 := 1#32
  let v1236 : Index := Scalar.indexCast c1_i32_1425
  let c0_i32_1408 : BitVec 32 := 0#32
  let c0_i32_294 : BitVec 32 := 0#32
  let c1_i32_296 : BitVec 32 := 1#32
  let arg11 : BitVec 32 := Scf.iv c0_i32_294 c1_i32_296 k0_t4
  let c1_i32_1407 : BitVec 32 := 1#32
  let v1184 : BitVec 32 := Scalar.muli arg11 c1_i32_1407
  let v1185 : BitVec 32 := Scalar.addi c0_i32_1408 v1184
  let v1237 : Index := Scalar.indexCast v1185
  let c32 : Index := 32#32
  ![1, v1237.toNat, 32]
def k0_off34 (k0_t4 : Fin k0_t4_loop.trips) : Fin 3 → Nat :=
  let c1_i32_1431 : BitVec 32 := 1#32
  let v1256 : Index := Scalar.indexCast c1_i32_1431
  let c0_i32_1408 : BitVec 32 := 0#32
  let c0_i32_294 : BitVec 32 := 0#32
  let c1_i32_296 : BitVec 32 := 1#32
  let arg11 : BitVec 32 := Scf.iv c0_i32_294 c1_i32_296 k0_t4
  let c1_i32_1407 : BitVec 32 := 1#32
  let v1184 : BitVec 32 := Scalar.muli arg11 c1_i32_1407
  let v1185 : BitVec 32 := Scalar.addi c0_i32_1408 v1184
  let v1257 : Index := Scalar.indexCast v1185
  let c48 : Index := 48#32
  ![1, v1257.toNat, 48]
def k0_off35 (k0_t4 : Fin k0_t4_loop.trips) : Fin 3 → Nat :=
  let c1_i32_1436 : BitVec 32 := 1#32
  let v1276 : Index := Scalar.indexCast c1_i32_1436
  let c0_i32_1408 : BitVec 32 := 0#32
  let c0_i32_294 : BitVec 32 := 0#32
  let c1_i32_296 : BitVec 32 := 1#32
  let arg11 : BitVec 32 := Scf.iv c0_i32_294 c1_i32_296 k0_t4
  let c1_i32_1407 : BitVec 32 := 1#32
  let v1184 : BitVec 32 := Scalar.muli arg11 c1_i32_1407
  let v1185 : BitVec 32 := Scalar.addi c0_i32_1408 v1184
  let v1277 : Index := Scalar.indexCast v1185
  let c60 : Index := 60#32
  ![1, v1277.toNat, 60]
@[reducible] def k0_t5_loop : Scf.Loop 32 :=
  let c0_i32_366 : BitVec 32 := 0#32
  let c228_i32_367 : BitVec 32 := 228#32
  let v311 : BitVec 32 := Scalar.addi c0_i32_366 c228_i32_367
  let c1_i32_368 : BitVec 32 := 1#32
  ⟨c0_i32_366, v311, c1_i32_368⟩
def k0_off36 (k0_t5 : Fin k0_t5_loop.trips) : Fin 3 → Nat :=
  let c0_i32_1414 : BitVec 32 := 0#32
  let v1191 : Index := Scalar.indexCast c0_i32_1414
  let c0_i32_1408 : BitVec 32 := 0#32
  let c0_i32_366 : BitVec 32 := 0#32
  let c1_i32_368 : BitVec 32 := 1#32
  let arg11 : BitVec 32 := Scf.iv c0_i32_366 c1_i32_368 k0_t5
  let c1_i32_1407 : BitVec 32 := 1#32
  let v1184 : BitVec 32 := Scalar.muli arg11 c1_i32_1407
  let v1185 : BitVec 32 := Scalar.addi c0_i32_1408 v1184
  let v1192 : Index := Scalar.indexCast v1185
  let c0 : Index := 0#32
  ![0, v1192.toNat, 0]
def k0_off37 (k0_t5 : Fin k0_t5_loop.trips) (c0_i32_1415 : BitVec 32) : Fin 1 → Nat :=
  let c0_i32_1408 : BitVec 32 := 0#32
  let c0_i32_366 : BitVec 32 := 0#32
  let c1_i32_368 : BitVec 32 := 1#32
  let arg11 : BitVec 32 := Scf.iv c0_i32_366 c1_i32_368 k0_t5
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1415
  let v1199 : Index := Scalar.indexCast v1198
  ![v1199.toNat]
def k0_off37_at (r : Fin 5) : BitVec 32 :=
  if r.val < 2 then
    if r.val < 1 then
      0#32
    else
      16#32
  else
    if r.val < 3 then
      32#32
    else
      if r.val < 4 then
        48#32
      else
        60#32
def k0_off38 (k0_t5 : Fin k0_t5_loop.trips) : Fin 3 → Nat :=
  let c0_i32_1416 : BitVec 32 := 0#32
  let v1203 : Index := Scalar.indexCast c0_i32_1416
  let c0_i32_1408 : BitVec 32 := 0#32
  let c0_i32_366 : BitVec 32 := 0#32
  let c1_i32_368 : BitVec 32 := 1#32
  let arg11 : BitVec 32 := Scf.iv c0_i32_366 c1_i32_368 k0_t5
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![0, v1204.toNat, 16]
def k0_off39 (k0_t5 : Fin k0_t5_loop.trips) : Fin 3 → Nat :=
  let c0_i32_1418 : BitVec 32 := 0#32
  let v1215 : Index := Scalar.indexCast c0_i32_1418
  let c0_i32_1408 : BitVec 32 := 0#32
  let c0_i32_366 : BitVec 32 := 0#32
  let c1_i32_368 : BitVec 32 := 1#32
  let arg11 : BitVec 32 := Scf.iv c0_i32_366 c1_i32_368 k0_t5
  let c1_i32_1407 : BitVec 32 := 1#32
  let v1184 : BitVec 32 := Scalar.muli arg11 c1_i32_1407
  let v1185 : BitVec 32 := Scalar.addi c0_i32_1408 v1184
  let v1216 : Index := Scalar.indexCast v1185
  let c32 : Index := 32#32
  ![0, v1216.toNat, 32]
def k0_off40 (k0_t5 : Fin k0_t5_loop.trips) : Fin 3 → Nat :=
  let c0_i32_1420 : BitVec 32 := 0#32
  let v1227 : Index := Scalar.indexCast c0_i32_1420
  let c0_i32_1408 : BitVec 32 := 0#32
  let c0_i32_366 : BitVec 32 := 0#32
  let c1_i32_368 : BitVec 32 := 1#32
  let arg11 : BitVec 32 := Scf.iv c0_i32_366 c1_i32_368 k0_t5
  let c1_i32_1407 : BitVec 32 := 1#32
  let v1184 : BitVec 32 := Scalar.muli arg11 c1_i32_1407
  let v1185 : BitVec 32 := Scalar.addi c0_i32_1408 v1184
  let v1228 : Index := Scalar.indexCast v1185
  let c48 : Index := 48#32
  ![0, v1228.toNat, 48]
def k0_off41 (k0_t5 : Fin k0_t5_loop.trips) : Fin 3 → Nat :=
  let c0_i32_1421 : BitVec 32 := 0#32
  let v1239 : Index := Scalar.indexCast c0_i32_1421
  let c0_i32_1408 : BitVec 32 := 0#32
  let c0_i32_366 : BitVec 32 := 0#32
  let c1_i32_368 : BitVec 32 := 1#32
  let arg11 : BitVec 32 := Scf.iv c0_i32_366 c1_i32_368 k0_t5
  let c1_i32_1407 : BitVec 32 := 1#32
  let v1184 : BitVec 32 := Scalar.muli arg11 c1_i32_1407
  let v1185 : BitVec 32 := Scalar.addi c0_i32_1408 v1184
  let v1240 : Index := Scalar.indexCast v1185
  let c60 : Index := 60#32
  ![0, v1240.toNat, 60]
def k0_off42 (i : grid0.Coords) (c0_i32_301 : BitVec 32) : Fin 3 → Nat :=
  let c2_i32_370 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v257 : BitVec 32 := Scalar.addi v1 c0_i32_301
  let c0_i32_371 : BitVec 32 := 0#32
  ![2, v257.toNat, 0]
def k0_off43 (i : grid0.Coords) (c0_i32_404 : BitVec 32) : Fin 4 → Nat :=
  let c3_i32 : BitVec 32 := 3#32
  let c0_i32_408 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v341 : BitVec 32 := Scalar.addi v1 c0_i32_404
  let c0_i32_409 : BitVec 32 := 0#32
  ![3, 0, v341.toNat, 0]
def k0_off44 (i : grid0.Coords) (c0_i32_404 : BitVec 32) : Fin 4 → Nat :=
  let c13_i32 : BitVec 32 := 13#32
  let c0_i32_417 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v341 : BitVec 32 := Scalar.addi v1 c0_i32_404
  let c0_i32_418 : BitVec 32 := 0#32
  ![13, 0, v341.toNat, 0]
def k0_off45 (i : grid0.Coords) (c0_i32_404 : BitVec 32) : Fin 4 → Nat :=
  let c23_i32 : BitVec 32 := 23#32
  let c0_i32_426 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v341 : BitVec 32 := Scalar.addi v1 c0_i32_404
  let c0_i32_427 : BitVec 32 := 0#32
  ![23, 0, v341.toNat, 0]
@[reducible] def k0_t6_loop : Scf.Loop 32 :=
  let c0_i32_435 : BitVec 32 := 0#32
  let c228_i32_436 : BitVec 32 := 228#32
  let v370 : BitVec 32 := Scalar.addi c0_i32_435 c228_i32_436
  let c1_i32_437 : BitVec 32 := 1#32
  ⟨c0_i32_435, v370, c1_i32_437⟩
def k0_off46 (k0_t6 : Fin k0_t6_loop.trips) : Fin 3 → Nat :=
  let c1_i32_1414 : BitVec 32 := 1#32
  let v1191 : Index := Scalar.indexCast c1_i32_1414
  let c0_i32_1408 : BitVec 32 := 0#32
  let c0_i32_435 : BitVec 32 := 0#32
  let c1_i32_437 : BitVec 32 := 1#32
  let arg11 : BitVec 32 := Scf.iv c0_i32_435 c1_i32_437 k0_t6
  let c1_i32_1407 : BitVec 32 := 1#32
  let v1184 : BitVec 32 := Scalar.muli arg11 c1_i32_1407
  let v1185 : BitVec 32 := Scalar.addi c0_i32_1408 v1184
  let v1192 : Index := Scalar.indexCast v1185
  let c0 : Index := 0#32
  ![1, v1192.toNat, 0]
def k0_off47 (k0_t6 : Fin k0_t6_loop.trips) (c0_i32_1415 : BitVec 32) : Fin 1 → Nat :=
  let c0_i32_1408 : BitVec 32 := 0#32
  let c0_i32_435 : BitVec 32 := 0#32
  let c1_i32_437 : BitVec 32 := 1#32
  let arg11 : BitVec 32 := Scf.iv c0_i32_435 c1_i32_437 k0_t6
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1415
  let v1199 : Index := Scalar.indexCast v1198
  ![v1199.toNat]
def k0_off47_at (r : Fin 5) : BitVec 32 :=
  if r.val < 2 then
    if r.val < 1 then
      0#32
    else
      16#32
  else
    if r.val < 3 then
      32#32
    else
      if r.val < 4 then
        48#32
      else
        60#32
def k0_off48 (k0_t6 : Fin k0_t6_loop.trips) : Fin 3 → Nat :=
  let c1_i32_1416 : BitVec 32 := 1#32
  let v1203 : Index := Scalar.indexCast c1_i32_1416
  let c0_i32_1408 : BitVec 32 := 0#32
  let c0_i32_435 : BitVec 32 := 0#32
  let c1_i32_437 : BitVec 32 := 1#32
  let arg11 : BitVec 32 := Scf.iv c0_i32_435 c1_i32_437 k0_t6
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![1, v1204.toNat, 16]
def k0_off49 (k0_t6 : Fin k0_t6_loop.trips) : Fin 3 → Nat :=
  let c1_i32_1418 : BitVec 32 := 1#32
  let v1215 : Index := Scalar.indexCast c1_i32_1418
  let c0_i32_1408 : BitVec 32 := 0#32
  let c0_i32_435 : BitVec 32 := 0#32
  let c1_i32_437 : BitVec 32 := 1#32
  let arg11 : BitVec 32 := Scf.iv c0_i32_435 c1_i32_437 k0_t6
  let c1_i32_1407 : BitVec 32 := 1#32
  let v1184 : BitVec 32 := Scalar.muli arg11 c1_i32_1407
  let v1185 : BitVec 32 := Scalar.addi c0_i32_1408 v1184
  let v1216 : Index := Scalar.indexCast v1185
  let c32 : Index := 32#32
  ![1, v1216.toNat, 32]
def k0_off50 (k0_t6 : Fin k0_t6_loop.trips) : Fin 3 → Nat :=
  let c1_i32_1420 : BitVec 32 := 1#32
  let v1227 : Index := Scalar.indexCast c1_i32_1420
  let c0_i32_1408 : BitVec 32 := 0#32
  let c0_i32_435 : BitVec 32 := 0#32
  let c1_i32_437 : BitVec 32 := 1#32
  let arg11 : BitVec 32 := Scf.iv c0_i32_435 c1_i32_437 k0_t6
  let c1_i32_1407 : BitVec 32 := 1#32
  let v1184 : BitVec 32 := Scalar.muli arg11 c1_i32_1407
  let v1185 : BitVec 32 := Scalar.addi c0_i32_1408 v1184
  let v1228 : Index := Scalar.indexCast v1185
  let c48 : Index := 48#32
  ![1, v1228.toNat, 48]
def k0_off51 (k0_t6 : Fin k0_t6_loop.trips) : Fin 3 → Nat :=
  let c1_i32_1421 : BitVec 32 := 1#32
  let v1239 : Index := Scalar.indexCast c1_i32_1421
  let c0_i32_1408 : BitVec 32 := 0#32
  let c0_i32_435 : BitVec 32 := 0#32
  let c1_i32_437 : BitVec 32 := 1#32
  let arg11 : BitVec 32 := Scf.iv c0_i32_435 c1_i32_437 k0_t6
  let c1_i32_1407 : BitVec 32 := 1#32
  let v1184 : BitVec 32 := Scalar.muli arg11 c1_i32_1407
  let v1185 : BitVec 32 := Scalar.addi c0_i32_1408 v1184
  let v1240 : Index := Scalar.indexCast v1185
  let c60 : Index := 60#32
  ![1, v1240.toNat, 60]
@[reducible] def k0_t7_loop : Scf.Loop 32 :=
  let c0_i32_507 : BitVec 32 := 0#32
  let c228_i32_508 : BitVec 32 := 228#32
  let v429 : BitVec 32 := Scalar.addi c0_i32_507 c228_i32_508
  let c1_i32_509 : BitVec 32 := 1#32
  ⟨c0_i32_507, v429, c1_i32_509⟩
def k0_off52 (k0_t7 : Fin k0_t7_loop.trips) : Fin 3 → Nat :=
  let c0_i32_1414 : BitVec 32 := 0#32
  let v1191 : Index := Scalar.indexCast c0_i32_1414
  let c0_i32_1408 : BitVec 32 := 0#32
  let c0_i32_507 : BitVec 32 := 0#32
  let c1_i32_509 : BitVec 32 := 1#32
  let arg11 : BitVec 32 := Scf.iv c0_i32_507 c1_i32_509 k0_t7
  let c1_i32_1407 : BitVec 32 := 1#32
  let v1184 : BitVec 32 := Scalar.muli arg11 c1_i32_1407
  let v1185 : BitVec 32 := Scalar.addi c0_i32_1408 v1184
  let v1192 : Index := Scalar.indexCast v1185
  let c0 : Index := 0#32
  ![0, v1192.toNat, 0]
def k0_off53 (k0_t7 : Fin k0_t7_loop.trips) (c0_i32_1415 : BitVec 32) : Fin 1 → Nat :=
  let c0_i32_1408 : BitVec 32 := 0#32
  let c0_i32_507 : BitVec 32 := 0#32
  let c1_i32_509 : BitVec 32 := 1#32
  let arg11 : BitVec 32 := Scf.iv c0_i32_507 c1_i32_509 k0_t7
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1415
  let v1199 : Index := Scalar.indexCast v1198
  ![v1199.toNat]
def k0_off53_at (r : Fin 5) : BitVec 32 :=
  if r.val < 2 then
    if r.val < 1 then
      0#32
    else
      16#32
  else
    if r.val < 3 then
      32#32
    else
      if r.val < 4 then
        48#32
      else
        60#32
def k0_off54 (k0_t7 : Fin k0_t7_loop.trips) : Fin 3 → Nat :=
  let c0_i32_1416 : BitVec 32 := 0#32
  let v1203 : Index := Scalar.indexCast c0_i32_1416
  let c0_i32_1408 : BitVec 32 := 0#32
  let c0_i32_507 : BitVec 32 := 0#32
  let c1_i32_509 : BitVec 32 := 1#32
  let arg11 : BitVec 32 := Scf.iv c0_i32_507 c1_i32_509 k0_t7
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![0, v1204.toNat, 16]
def k0_off55 (k0_t7 : Fin k0_t7_loop.trips) : Fin 3 → Nat :=
  let c0_i32_1418 : BitVec 32 := 0#32
  let v1215 : Index := Scalar.indexCast c0_i32_1418
  let c0_i32_1408 : BitVec 32 := 0#32
  let c0_i32_507 : BitVec 32 := 0#32
  let c1_i32_509 : BitVec 32 := 1#32
  let arg11 : BitVec 32 := Scf.iv c0_i32_507 c1_i32_509 k0_t7
  let c1_i32_1407 : BitVec 32 := 1#32
  let v1184 : BitVec 32 := Scalar.muli arg11 c1_i32_1407
  let v1185 : BitVec 32 := Scalar.addi c0_i32_1408 v1184
  let v1216 : Index := Scalar.indexCast v1185
  let c32 : Index := 32#32
  ![0, v1216.toNat, 32]
def k0_off56 (k0_t7 : Fin k0_t7_loop.trips) : Fin 3 → Nat :=
  let c0_i32_1420 : BitVec 32 := 0#32
  let v1227 : Index := Scalar.indexCast c0_i32_1420
  let c0_i32_1408 : BitVec 32 := 0#32
  let c0_i32_507 : BitVec 32 := 0#32
  let c1_i32_509 : BitVec 32 := 1#32
  let arg11 : BitVec 32 := Scf.iv c0_i32_507 c1_i32_509 k0_t7
  let c1_i32_1407 : BitVec 32 := 1#32
  let v1184 : BitVec 32 := Scalar.muli arg11 c1_i32_1407
  let v1185 : BitVec 32 := Scalar.addi c0_i32_1408 v1184
  let v1228 : Index := Scalar.indexCast v1185
  let c48 : Index := 48#32
  ![0, v1228.toNat, 48]
def k0_off57 (k0_t7 : Fin k0_t7_loop.trips) : Fin 3 → Nat :=
  let c0_i32_1421 : BitVec 32 := 0#32
  let v1239 : Index := Scalar.indexCast c0_i32_1421
  let c0_i32_1408 : BitVec 32 := 0#32
  let c0_i32_507 : BitVec 32 := 0#32
  let c1_i32_509 : BitVec 32 := 1#32
  let arg11 : BitVec 32 := Scf.iv c0_i32_507 c1_i32_509 k0_t7
  let c1_i32_1407 : BitVec 32 := 1#32
  let v1184 : BitVec 32 := Scalar.muli arg11 c1_i32_1407
  let v1185 : BitVec 32 := Scalar.addi c0_i32_1408 v1184
  let v1240 : Index := Scalar.indexCast v1185
  let c60 : Index := 60#32
  ![0, v1240.toNat, 60]
def k0_off58 (i : grid0.Coords) (c0_i32_442 : BitVec 32) : Fin 3 → Nat :=
  let c3_i32_511 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v375 : BitVec 32 := Scalar.addi v1 c0_i32_442
  let c0_i32_512 : BitVec 32 := 0#32
  ![3, v375.toNat, 0]
def k0_off59 (i : grid0.Coords) (c0_i32_545 : BitVec 32) : Fin 4 → Nat :=
  let c4_i32 : BitVec 32 := 4#32
  let c0_i32_549 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v459 : BitVec 32 := Scalar.addi v1 c0_i32_545
  let c0_i32_550 : BitVec 32 := 0#32
  ![4, 0, v459.toNat, 0]
def k0_off60 (i : grid0.Coords) (c0_i32_545 : BitVec 32) : Fin 4 → Nat :=
  let c14_i32 : BitVec 32 := 14#32
  let c0_i32_558 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v459 : BitVec 32 := Scalar.addi v1 c0_i32_545
  let c0_i32_559 : BitVec 32 := 0#32
  ![14, 0, v459.toNat, 0]
def k0_off61 (i : grid0.Coords) (c0_i32_545 : BitVec 32) : Fin 4 → Nat :=
  let c24_i32 : BitVec 32 := 24#32
  let c0_i32_567 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v459 : BitVec 32 := Scalar.addi v1 c0_i32_545
  let c0_i32_568 : BitVec 32 := 0#32
  ![24, 0, v459.toNat, 0]
@[reducible] def k0_t8_loop : Scf.Loop 32 :=
  let c0_i32_576 : BitVec 32 := 0#32
  let c228_i32_577 : BitVec 32 := 228#32
  let v488 : BitVec 32 := Scalar.addi c0_i32_576 c228_i32_577
  let c1_i32_578 : BitVec 32 := 1#32
  ⟨c0_i32_576, v488, c1_i32_578⟩
def k0_off62 (k0_t8 : Fin k0_t8_loop.trips) : Fin 3 → Nat :=
  let c1_i32_1414 : BitVec 32 := 1#32
  let v1191 : Index := Scalar.indexCast c1_i32_1414
  let c0_i32_1408 : BitVec 32 := 0#32
  let c0_i32_576 : BitVec 32 := 0#32
  let c1_i32_578 : BitVec 32 := 1#32
  let arg11 : BitVec 32 := Scf.iv c0_i32_576 c1_i32_578 k0_t8
  let c1_i32_1407 : BitVec 32 := 1#32
  let v1184 : BitVec 32 := Scalar.muli arg11 c1_i32_1407
  let v1185 : BitVec 32 := Scalar.addi c0_i32_1408 v1184
  let v1192 : Index := Scalar.indexCast v1185
  let c0 : Index := 0#32
  ![1, v1192.toNat, 0]
def k0_off63 (k0_t8 : Fin k0_t8_loop.trips) (c0_i32_1415 : BitVec 32) : Fin 1 → Nat :=
  let c0_i32_1408 : BitVec 32 := 0#32
  let c0_i32_576 : BitVec 32 := 0#32
  let c1_i32_578 : BitVec 32 := 1#32
  let arg11 : BitVec 32 := Scf.iv c0_i32_576 c1_i32_578 k0_t8
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1415
  let v1199 : Index := Scalar.indexCast v1198
  ![v1199.toNat]
def k0_off63_at (r : Fin 5) : BitVec 32 :=
  if r.val < 2 then
    if r.val < 1 then
      0#32
    else
      16#32
  else
    if r.val < 3 then
      32#32
    else
      if r.val < 4 then
        48#32
      else
        60#32
def k0_off64 (k0_t8 : Fin k0_t8_loop.trips) : Fin 3 → Nat :=
  let c1_i32_1416 : BitVec 32 := 1#32
  let v1203 : Index := Scalar.indexCast c1_i32_1416
  let c0_i32_1408 : BitVec 32 := 0#32
  let c0_i32_576 : BitVec 32 := 0#32
  let c1_i32_578 : BitVec 32 := 1#32
  let arg11 : BitVec 32 := Scf.iv c0_i32_576 c1_i32_578 k0_t8
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![1, v1204.toNat, 16]
def k0_off65 (k0_t8 : Fin k0_t8_loop.trips) : Fin 3 → Nat :=
  let c1_i32_1418 : BitVec 32 := 1#32
  let v1215 : Index := Scalar.indexCast c1_i32_1418
  let c0_i32_1408 : BitVec 32 := 0#32
  let c0_i32_576 : BitVec 32 := 0#32
  let c1_i32_578 : BitVec 32 := 1#32
  let arg11 : BitVec 32 := Scf.iv c0_i32_576 c1_i32_578 k0_t8
  let c1_i32_1407 : BitVec 32 := 1#32
  let v1184 : BitVec 32 := Scalar.muli arg11 c1_i32_1407
  let v1185 : BitVec 32 := Scalar.addi c0_i32_1408 v1184
  let v1216 : Index := Scalar.indexCast v1185
  let c32 : Index := 32#32
  ![1, v1216.toNat, 32]
def k0_off66 (k0_t8 : Fin k0_t8_loop.trips) : Fin 3 → Nat :=
  let c1_i32_1420 : BitVec 32 := 1#32
  let v1227 : Index := Scalar.indexCast c1_i32_1420
  let c0_i32_1408 : BitVec 32 := 0#32
  let c0_i32_576 : BitVec 32 := 0#32
  let c1_i32_578 : BitVec 32 := 1#32
  let arg11 : BitVec 32 := Scf.iv c0_i32_576 c1_i32_578 k0_t8
  let c1_i32_1407 : BitVec 32 := 1#32
  let v1184 : BitVec 32 := Scalar.muli arg11 c1_i32_1407
  let v1185 : BitVec 32 := Scalar.addi c0_i32_1408 v1184
  let v1228 : Index := Scalar.indexCast v1185
  let c48 : Index := 48#32
  ![1, v1228.toNat, 48]
def k0_off67 (k0_t8 : Fin k0_t8_loop.trips) : Fin 3 → Nat :=
  let c1_i32_1421 : BitVec 32 := 1#32
  let v1239 : Index := Scalar.indexCast c1_i32_1421
  let c0_i32_1408 : BitVec 32 := 0#32
  let c0_i32_576 : BitVec 32 := 0#32
  let c1_i32_578 : BitVec 32 := 1#32
  let arg11 : BitVec 32 := Scf.iv c0_i32_576 c1_i32_578 k0_t8
  let c1_i32_1407 : BitVec 32 := 1#32
  let v1184 : BitVec 32 := Scalar.muli arg11 c1_i32_1407
  let v1185 : BitVec 32 := Scalar.addi c0_i32_1408 v1184
  let v1240 : Index := Scalar.indexCast v1185
  let c60 : Index := 60#32
  ![1, v1240.toNat, 60]
@[reducible] def k0_t9_loop : Scf.Loop 32 :=
  let c0_i32_648 : BitVec 32 := 0#32
  let c228_i32_649 : BitVec 32 := 228#32
  let v547 : BitVec 32 := Scalar.addi c0_i32_648 c228_i32_649
  let c1_i32_650 : BitVec 32 := 1#32
  ⟨c0_i32_648, v547, c1_i32_650⟩
def k0_off68 (k0_t9 : Fin k0_t9_loop.trips) : Fin 3 → Nat :=
  let c0_i32_1410 : BitVec 32 := 0#32
  let v1187 : Index := Scalar.indexCast c0_i32_1410
  let c0_i32_1408 : BitVec 32 := 0#32
  let c0_i32_648 : BitVec 32 := 0#32
  let c1_i32_650 : BitVec 32 := 1#32
  let arg11 : BitVec 32 := Scf.iv c0_i32_648 c1_i32_650 k0_t9
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off69 (k0_t9 : Fin k0_t9_loop.trips) (c0_i32_1411 : BitVec 32) : Fin 1 → Nat :=
  let c0_i32_1408 : BitVec 32 := 0#32
  let c0_i32_648 : BitVec 32 := 0#32
  let c1_i32_650 : BitVec 32 := 1#32
  let arg11 : BitVec 32 := Scf.iv c0_i32_648 c1_i32_650 k0_t9
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1191 : BitVec 32 := Scalar.addi v1186 c0_i32_1411
  let v1192 : Index := Scalar.indexCast v1191
  ![v1192.toNat]
def k0_off69_at (r : Fin 5) : BitVec 32 :=
  if r.val < 2 then
    if r.val < 1 then
      0#32
    else
      16#32
  else
    if r.val < 3 then
      32#32
    else
      if r.val < 4 then
        48#32
      else
        60#32
def k0_off70 (k0_t9 : Fin k0_t9_loop.trips) : Fin 3 → Nat :=
  let c0_i32_1412 : BitVec 32 := 0#32
  let v1196 : Index := Scalar.indexCast c0_i32_1412
  let c0_i32_1408 : BitVec 32 := 0#32
  let c0_i32_648 : BitVec 32 := 0#32
  let c1_i32_650 : BitVec 32 := 1#32
  let arg11 : BitVec 32 := Scf.iv c0_i32_648 c1_i32_650 k0_t9
  let c1_i32_1407 : BitVec 32 := 1#32
  let v1184 : BitVec 32 := Scalar.muli arg11 c1_i32_1407
  let v1185 : BitVec 32 := Scalar.addi c0_i32_1408 v1184
  let v1197 : Index := Scalar.indexCast v1185
  let c16 : Index := 16#32
  ![0, v1197.toNat, 16]
def k0_off71 (k0_t9 : Fin k0_t9_loop.trips) : Fin 3 → Nat :=
  let c0_i32_1414 : BitVec 32 := 0#32
  let v1205 : Index := Scalar.indexCast c0_i32_1414
  let c0_i32_1408 : BitVec 32 := 0#32
  let c0_i32_648 : BitVec 32 := 0#32
  let c1_i32_650 : BitVec 32 := 1#32
  let arg11 : BitVec 32 := Scf.iv c0_i32_648 c1_i32_650 k0_t9
  let c1_i32_1407 : BitVec 32 := 1#32
  let v1184 : BitVec 32 := Scalar.muli arg11 c1_i32_1407
  let v1185 : BitVec 32 := Scalar.addi c0_i32_1408 v1184
  let v1206 : Index := Scalar.indexCast v1185
  let c32 : Index := 32#32
  ![0, v1206.toNat, 32]
def k0_off72 (k0_t9 : Fin k0_t9_loop.trips) : Fin 3 → Nat :=
  let c0_i32_1416 : BitVec 32 := 0#32
  let v1214 : Index := Scalar.indexCast c0_i32_1416
  let c0_i32_1408 : BitVec 32 := 0#32
  let c0_i32_648 : BitVec 32 := 0#32
  let c1_i32_650 : BitVec 32 := 1#32
  let arg11 : BitVec 32 := Scf.iv c0_i32_648 c1_i32_650 k0_t9
  let c1_i32_1407 : BitVec 32 := 1#32
  let v1184 : BitVec 32 := Scalar.muli arg11 c1_i32_1407
  let v1185 : BitVec 32 := Scalar.addi c0_i32_1408 v1184
  let v1215 : Index := Scalar.indexCast v1185
  let c48 : Index := 48#32
  ![0, v1215.toNat, 48]
def k0_off73 (k0_t9 : Fin k0_t9_loop.trips) : Fin 3 → Nat :=
  let c0_i32_1417 : BitVec 32 := 0#32
  let v1223 : Index := Scalar.indexCast c0_i32_1417
  let c0_i32_1408 : BitVec 32 := 0#32
  let c0_i32_648 : BitVec 32 := 0#32
  let c1_i32_650 : BitVec 32 := 1#32
  let arg11 : BitVec 32 := Scf.iv c0_i32_648 c1_i32_650 k0_t9
  let c1_i32_1407 : BitVec 32 := 1#32
  let v1184 : BitVec 32 := Scalar.muli arg11 c1_i32_1407
  let v1185 : BitVec 32 := Scalar.addi c0_i32_1408 v1184
  let v1224 : Index := Scalar.indexCast v1185
  let c60 : Index := 60#32
  ![0, v1224.toNat, 60]
def k0_off74 (i : grid0.Coords) (c0_i32_583 : BitVec 32) : Fin 3 → Nat :=
  let c4_i32_652 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v493 : BitVec 32 := Scalar.addi v1 c0_i32_583
  let c0_i32_653 : BitVec 32 := 0#32
  ![4, v493.toNat, 0]
def k0_off75 (i : grid0.Coords) (c0_i32_686 : BitVec 32) : Fin 4 → Nat :=
  let c5_i32 : BitVec 32 := 5#32
  let c0_i32_690 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v577 : BitVec 32 := Scalar.addi v1 c0_i32_686
  let c0_i32_691 : BitVec 32 := 0#32
  ![5, 0, v577.toNat, 0]
def k0_off76 (i : grid0.Coords) (c0_i32_686 : BitVec 32) : Fin 4 → Nat :=
  let c15_i32 : BitVec 32 := 15#32
  let c0_i32_699 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v577 : BitVec 32 := Scalar.addi v1 c0_i32_686
  let c0_i32_700 : BitVec 32 := 0#32
  ![15, 0, v577.toNat, 0]
def k0_off77 (i : grid0.Coords) (c0_i32_686 : BitVec 32) : Fin 4 → Nat :=
  let c25_i32 : BitVec 32 := 25#32
  let c0_i32_708 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v577 : BitVec 32 := Scalar.addi v1 c0_i32_686
  let c0_i32_709 : BitVec 32 := 0#32
  ![25, 0, v577.toNat, 0]
@[reducible] def k0_t10_loop : Scf.Loop 32 :=
  let c0_i32_717 : BitVec 32 := 0#32
  let c228_i32_718 : BitVec 32 := 228#32
  let v606 : BitVec 32 := Scalar.addi c0_i32_717 c228_i32_718
  let c1_i32_719 : BitVec 32 := 1#32
  ⟨c0_i32_717, v606, c1_i32_719⟩
def k0_off78 (k0_t10 : Fin k0_t10_loop.trips) : Fin 3 → Nat :=
  let c1_i32_1410 : BitVec 32 := 1#32
  let v1187 : Index := Scalar.indexCast c1_i32_1410
  let c0_i32_1408 : BitVec 32 := 0#32
  let c0_i32_717 : BitVec 32 := 0#32
  let c1_i32_719 : BitVec 32 := 1#32
  let arg11 : BitVec 32 := Scf.iv c0_i32_717 c1_i32_719 k0_t10
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off79 (k0_t10 : Fin k0_t10_loop.trips) (c0_i32_1411 : BitVec 32) : Fin 1 → Nat :=
  let c0_i32_1408 : BitVec 32 := 0#32
  let c0_i32_717 : BitVec 32 := 0#32
  let c1_i32_719 : BitVec 32 := 1#32
  let arg11 : BitVec 32 := Scf.iv c0_i32_717 c1_i32_719 k0_t10
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1191 : BitVec 32 := Scalar.addi v1186 c0_i32_1411
  let v1192 : Index := Scalar.indexCast v1191
  ![v1192.toNat]
def k0_off79_at (r : Fin 5) : BitVec 32 :=
  if r.val < 2 then
    if r.val < 1 then
      0#32
    else
      16#32
  else
    if r.val < 3 then
      32#32
    else
      if r.val < 4 then
        48#32
      else
        60#32
def k0_off80 (k0_t10 : Fin k0_t10_loop.trips) : Fin 3 → Nat :=
  let c1_i32_1412 : BitVec 32 := 1#32
  let v1196 : Index := Scalar.indexCast c1_i32_1412
  let c0_i32_1408 : BitVec 32 := 0#32
  let c0_i32_717 : BitVec 32 := 0#32
  let c1_i32_719 : BitVec 32 := 1#32
  let arg11 : BitVec 32 := Scf.iv c0_i32_717 c1_i32_719 k0_t10
  let c1_i32_1407 : BitVec 32 := 1#32
  let v1184 : BitVec 32 := Scalar.muli arg11 c1_i32_1407
  let v1185 : BitVec 32 := Scalar.addi c0_i32_1408 v1184
  let v1197 : Index := Scalar.indexCast v1185
  let c16 : Index := 16#32
  ![1, v1197.toNat, 16]
def k0_off81 (k0_t10 : Fin k0_t10_loop.trips) : Fin 3 → Nat :=
  let c1_i32_1414 : BitVec 32 := 1#32
  let v1205 : Index := Scalar.indexCast c1_i32_1414
  let c0_i32_1408 : BitVec 32 := 0#32
  let c0_i32_717 : BitVec 32 := 0#32
  let c1_i32_719 : BitVec 32 := 1#32
  let arg11 : BitVec 32 := Scf.iv c0_i32_717 c1_i32_719 k0_t10
  let c1_i32_1407 : BitVec 32 := 1#32
  let v1184 : BitVec 32 := Scalar.muli arg11 c1_i32_1407
  let v1185 : BitVec 32 := Scalar.addi c0_i32_1408 v1184
  let v1206 : Index := Scalar.indexCast v1185
  let c32 : Index := 32#32
  ![1, v1206.toNat, 32]
def k0_off82 (k0_t10 : Fin k0_t10_loop.trips) : Fin 3 → Nat :=
  let c1_i32_1416 : BitVec 32 := 1#32
  let v1214 : Index := Scalar.indexCast c1_i32_1416
  let c0_i32_1408 : BitVec 32 := 0#32
  let c0_i32_717 : BitVec 32 := 0#32
  let c1_i32_719 : BitVec 32 := 1#32
  let arg11 : BitVec 32 := Scf.iv c0_i32_717 c1_i32_719 k0_t10
  let c1_i32_1407 : BitVec 32 := 1#32
  let v1184 : BitVec 32 := Scalar.muli arg11 c1_i32_1407
  let v1185 : BitVec 32 := Scalar.addi c0_i32_1408 v1184
  let v1215 : Index := Scalar.indexCast v1185
  let c48 : Index := 48#32
  ![1, v1215.toNat, 48]
def k0_off83 (k0_t10 : Fin k0_t10_loop.trips) : Fin 3 → Nat :=
  let c1_i32_1417 : BitVec 32 := 1#32
  let v1223 : Index := Scalar.indexCast c1_i32_1417
  let c0_i32_1408 : BitVec 32 := 0#32
  let c0_i32_717 : BitVec 32 := 0#32
  let c1_i32_719 : BitVec 32 := 1#32
  let arg11 : BitVec 32 := Scf.iv c0_i32_717 c1_i32_719 k0_t10
  let c1_i32_1407 : BitVec 32 := 1#32
  let v1184 : BitVec 32 := Scalar.muli arg11 c1_i32_1407
  let v1185 : BitVec 32 := Scalar.addi c0_i32_1408 v1184
  let v1224 : Index := Scalar.indexCast v1185
  let c60 : Index := 60#32
  ![1, v1224.toNat, 60]
@[reducible] def k0_t11_loop : Scf.Loop 32 :=
  let c0_i32_789 : BitVec 32 := 0#32
  let c228_i32_790 : BitVec 32 := 228#32
  let v665 : BitVec 32 := Scalar.addi c0_i32_789 c228_i32_790
  let c1_i32_791 : BitVec 32 := 1#32
  ⟨c0_i32_789, v665, c1_i32_791⟩
def k0_off84 (k0_t11 : Fin k0_t11_loop.trips) : Fin 3 → Nat :=
  let c0_i32_1410 : BitVec 32 := 0#32
  let v1187 : Index := Scalar.indexCast c0_i32_1410
  let c0_i32_1408 : BitVec 32 := 0#32
  let c0_i32_789 : BitVec 32 := 0#32
  let c1_i32_791 : BitVec 32 := 1#32
  let arg11 : BitVec 32 := Scf.iv c0_i32_789 c1_i32_791 k0_t11
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off85 (k0_t11 : Fin k0_t11_loop.trips) (c0_i32_1411 : BitVec 32) : Fin 1 → Nat :=
  let c0_i32_1408 : BitVec 32 := 0#32
  let c0_i32_789 : BitVec 32 := 0#32
  let c1_i32_791 : BitVec 32 := 1#32
  let arg11 : BitVec 32 := Scf.iv c0_i32_789 c1_i32_791 k0_t11
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1191 : BitVec 32 := Scalar.addi v1186 c0_i32_1411
  let v1192 : Index := Scalar.indexCast v1191
  ![v1192.toNat]
def k0_off85_at (r : Fin 5) : BitVec 32 :=
  if r.val < 2 then
    if r.val < 1 then
      0#32
    else
      16#32
  else
    if r.val < 3 then
      32#32
    else
      if r.val < 4 then
        48#32
      else
        60#32
def k0_off86 (k0_t11 : Fin k0_t11_loop.trips) : Fin 3 → Nat :=
  let c0_i32_1412 : BitVec 32 := 0#32
  let v1196 : Index := Scalar.indexCast c0_i32_1412
  let c0_i32_1408 : BitVec 32 := 0#32
  let c0_i32_789 : BitVec 32 := 0#32
  let c1_i32_791 : BitVec 32 := 1#32
  let arg11 : BitVec 32 := Scf.iv c0_i32_789 c1_i32_791 k0_t11
  let c1_i32_1407 : BitVec 32 := 1#32
  let v1184 : BitVec 32 := Scalar.muli arg11 c1_i32_1407
  let v1185 : BitVec 32 := Scalar.addi c0_i32_1408 v1184
  let v1197 : Index := Scalar.indexCast v1185
  let c16 : Index := 16#32
  ![0, v1197.toNat, 16]
def k0_off87 (k0_t11 : Fin k0_t11_loop.trips) : Fin 3 → Nat :=
  let c0_i32_1414 : BitVec 32 := 0#32
  let v1205 : Index := Scalar.indexCast c0_i32_1414
  let c0_i32_1408 : BitVec 32 := 0#32
  let c0_i32_789 : BitVec 32 := 0#32
  let c1_i32_791 : BitVec 32 := 1#32
  let arg11 : BitVec 32 := Scf.iv c0_i32_789 c1_i32_791 k0_t11
  let c1_i32_1407 : BitVec 32 := 1#32
  let v1184 : BitVec 32 := Scalar.muli arg11 c1_i32_1407
  let v1185 : BitVec 32 := Scalar.addi c0_i32_1408 v1184
  let v1206 : Index := Scalar.indexCast v1185
  let c32 : Index := 32#32
  ![0, v1206.toNat, 32]
def k0_off88 (k0_t11 : Fin k0_t11_loop.trips) : Fin 3 → Nat :=
  let c0_i32_1416 : BitVec 32 := 0#32
  let v1214 : Index := Scalar.indexCast c0_i32_1416
  let c0_i32_1408 : BitVec 32 := 0#32
  let c0_i32_789 : BitVec 32 := 0#32
  let c1_i32_791 : BitVec 32 := 1#32
  let arg11 : BitVec 32 := Scf.iv c0_i32_789 c1_i32_791 k0_t11
  let c1_i32_1407 : BitVec 32 := 1#32
  let v1184 : BitVec 32 := Scalar.muli arg11 c1_i32_1407
  let v1185 : BitVec 32 := Scalar.addi c0_i32_1408 v1184
  let v1215 : Index := Scalar.indexCast v1185
  let c48 : Index := 48#32
  ![0, v1215.toNat, 48]
def k0_off89 (k0_t11 : Fin k0_t11_loop.trips) : Fin 3 → Nat :=
  let c0_i32_1417 : BitVec 32 := 0#32
  let v1223 : Index := Scalar.indexCast c0_i32_1417
  let c0_i32_1408 : BitVec 32 := 0#32
  let c0_i32_789 : BitVec 32 := 0#32
  let c1_i32_791 : BitVec 32 := 1#32
  let arg11 : BitVec 32 := Scf.iv c0_i32_789 c1_i32_791 k0_t11
  let c1_i32_1407 : BitVec 32 := 1#32
  let v1184 : BitVec 32 := Scalar.muli arg11 c1_i32_1407
  let v1185 : BitVec 32 := Scalar.addi c0_i32_1408 v1184
  let v1224 : Index := Scalar.indexCast v1185
  let c60 : Index := 60#32
  ![0, v1224.toNat, 60]
def k0_off90 (i : grid0.Coords) (c0_i32_724 : BitVec 32) : Fin 3 → Nat :=
  let c5_i32_793 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v611 : BitVec 32 := Scalar.addi v1 c0_i32_724
  let c0_i32_794 : BitVec 32 := 0#32
  ![5, v611.toNat, 0]
def k0_off91 (i : grid0.Coords) (c0_i32_827 : BitVec 32) : Fin 4 → Nat :=
  let c6_i32 : BitVec 32 := 6#32
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v695 : BitVec 32 := Scalar.addi v1 c0_i32_827
  let c0_i32_832 : BitVec 32 := 0#32
  ![6, 0, v695.toNat, 0]
def k0_off92 (i : grid0.Coords) (c0_i32_827 : BitVec 32) : Fin 4 → Nat :=
  let c16_i32 : BitVec 32 := 16#32
  let c0_i32_840 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v695 : BitVec 32 := Scalar.addi v1 c0_i32_827
  let c0_i32_841 : BitVec 32 := 0#32
  ![16, 0, v695.toNat, 0]
def k0_off93 (i : grid0.Coords) (c0_i32_827 : BitVec 32) : Fin 4 → Nat :=
  let c26_i32 : BitVec 32 := 26#32
  let c0_i32_849 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v695 : BitVec 32 := Scalar.addi v1 c0_i32_827
  let c0_i32_850 : BitVec 32 := 0#32
  ![26, 0, v695.toNat, 0]
@[reducible] def k0_t12_loop : Scf.Loop 32 :=
  let c0_i32_858 : BitVec 32 := 0#32
  let c228_i32_859 : BitVec 32 := 228#32
  let v724 : BitVec 32 := Scalar.addi c0_i32_858 c228_i32_859
  let c1_i32_860 : BitVec 32 := 1#32
  ⟨c0_i32_858, v724, c1_i32_860⟩
def k0_off94 (k0_t12 : Fin k0_t12_loop.trips) : Fin 3 → Nat :=
  let c1_i32_1410 : BitVec 32 := 1#32
  let v1187 : Index := Scalar.indexCast c1_i32_1410
  let c0_i32_1408 : BitVec 32 := 0#32
  let c0_i32_858 : BitVec 32 := 0#32
  let c1_i32_860 : BitVec 32 := 1#32
  let arg11 : BitVec 32 := Scf.iv c0_i32_858 c1_i32_860 k0_t12
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off95 (k0_t12 : Fin k0_t12_loop.trips) (c0_i32_1411 : BitVec 32) : Fin 1 → Nat :=
  let c0_i32_1408 : BitVec 32 := 0#32
  let c0_i32_858 : BitVec 32 := 0#32
  let c1_i32_860 : BitVec 32 := 1#32
  let arg11 : BitVec 32 := Scf.iv c0_i32_858 c1_i32_860 k0_t12
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1191 : BitVec 32 := Scalar.addi v1186 c0_i32_1411
  let v1192 : Index := Scalar.indexCast v1191
  ![v1192.toNat]
def k0_off95_at (r : Fin 5) : BitVec 32 :=
  if r.val < 2 then
    if r.val < 1 then
      0#32
    else
      16#32
  else
    if r.val < 3 then
      32#32
    else
      if r.val < 4 then
        48#32
      else
        60#32
def k0_off96 (k0_t12 : Fin k0_t12_loop.trips) : Fin 3 → Nat :=
  let c1_i32_1412 : BitVec 32 := 1#32
  let v1196 : Index := Scalar.indexCast c1_i32_1412
  let c0_i32_1408 : BitVec 32 := 0#32
  let c0_i32_858 : BitVec 32 := 0#32
  let c1_i32_860 : BitVec 32 := 1#32
  let arg11 : BitVec 32 := Scf.iv c0_i32_858 c1_i32_860 k0_t12
  let c1_i32_1407 : BitVec 32 := 1#32
  let v1184 : BitVec 32 := Scalar.muli arg11 c1_i32_1407
  let v1185 : BitVec 32 := Scalar.addi c0_i32_1408 v1184
  let v1197 : Index := Scalar.indexCast v1185
  let c16 : Index := 16#32
  ![1, v1197.toNat, 16]
def k0_off97 (k0_t12 : Fin k0_t12_loop.trips) : Fin 3 → Nat :=
  let c1_i32_1414 : BitVec 32 := 1#32
  let v1205 : Index := Scalar.indexCast c1_i32_1414
  let c0_i32_1408 : BitVec 32 := 0#32
  let c0_i32_858 : BitVec 32 := 0#32
  let c1_i32_860 : BitVec 32 := 1#32
  let arg11 : BitVec 32 := Scf.iv c0_i32_858 c1_i32_860 k0_t12
  let c1_i32_1407 : BitVec 32 := 1#32
  let v1184 : BitVec 32 := Scalar.muli arg11 c1_i32_1407
  let v1185 : BitVec 32 := Scalar.addi c0_i32_1408 v1184
  let v1206 : Index := Scalar.indexCast v1185
  let c32 : Index := 32#32
  ![1, v1206.toNat, 32]
def k0_off98 (k0_t12 : Fin k0_t12_loop.trips) : Fin 3 → Nat :=
  let c1_i32_1416 : BitVec 32 := 1#32
  let v1214 : Index := Scalar.indexCast c1_i32_1416
  let c0_i32_1408 : BitVec 32 := 0#32
  let c0_i32_858 : BitVec 32 := 0#32
  let c1_i32_860 : BitVec 32 := 1#32
  let arg11 : BitVec 32 := Scf.iv c0_i32_858 c1_i32_860 k0_t12
  let c1_i32_1407 : BitVec 32 := 1#32
  let v1184 : BitVec 32 := Scalar.muli arg11 c1_i32_1407
  let v1185 : BitVec 32 := Scalar.addi c0_i32_1408 v1184
  let v1215 : Index := Scalar.indexCast v1185
  let c48 : Index := 48#32
  ![1, v1215.toNat, 48]
def k0_off99 (k0_t12 : Fin k0_t12_loop.trips) : Fin 3 → Nat :=
  let c1_i32_1417 : BitVec 32 := 1#32
  let v1223 : Index := Scalar.indexCast c1_i32_1417
  let c0_i32_1408 : BitVec 32 := 0#32
  let c0_i32_858 : BitVec 32 := 0#32
  let c1_i32_860 : BitVec 32 := 1#32
  let arg11 : BitVec 32 := Scf.iv c0_i32_858 c1_i32_860 k0_t12
  let c1_i32_1407 : BitVec 32 := 1#32
  let v1184 : BitVec 32 := Scalar.muli arg11 c1_i32_1407
  let v1185 : BitVec 32 := Scalar.addi c0_i32_1408 v1184
  let v1224 : Index := Scalar.indexCast v1185
  let c60 : Index := 60#32
  ![1, v1224.toNat, 60]
@[reducible] def k0_t13_loop : Scf.Loop 32 :=
  let c0_i32_930 : BitVec 32 := 0#32
  let c228_i32_931 : BitVec 32 := 228#32
  let v783 : BitVec 32 := Scalar.addi c0_i32_930 c228_i32_931
  let c1_i32_932 : BitVec 32 := 1#32
  ⟨c0_i32_930, v783, c1_i32_932⟩
def k0_off100 (k0_t13 : Fin k0_t13_loop.trips) : Fin 3 → Nat :=
  let c0_i32_1410 : BitVec 32 := 0#32
  let v1187 : Index := Scalar.indexCast c0_i32_1410
  let c0_i32_1408 : BitVec 32 := 0#32
  let c0_i32_930 : BitVec 32 := 0#32
  let c1_i32_932 : BitVec 32 := 1#32
  let arg11 : BitVec 32 := Scf.iv c0_i32_930 c1_i32_932 k0_t13
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off101 (k0_t13 : Fin k0_t13_loop.trips) (c0_i32_1413 : BitVec 32) : Fin 1 → Nat :=
  let c0_i32_1408 : BitVec 32 := 0#32
  let c0_i32_930 : BitVec 32 := 0#32
  let c1_i32_932 : BitVec 32 := 1#32
  let arg11 : BitVec 32 := Scf.iv c0_i32_930 c1_i32_932 k0_t13
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off101_at (r : Fin 5) : BitVec 32 :=
  if r.val < 2 then
    if r.val < 1 then
      0#32
    else
      16#32
  else
    if r.val < 3 then
      32#32
    else
      if r.val < 4 then
        48#32
      else
        60#32
def k0_off102 (k0_t13 : Fin k0_t13_loop.trips) : Fin 3 → Nat :=
  let c0_i32_1414 : BitVec 32 := 0#32
  let v1203 : Index := Scalar.indexCast c0_i32_1414
  let c0_i32_1408 : BitVec 32 := 0#32
  let c0_i32_930 : BitVec 32 := 0#32
  let c1_i32_932 : BitVec 32 := 1#32
  let arg11 : BitVec 32 := Scf.iv c0_i32_930 c1_i32_932 k0_t13
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![0, v1204.toNat, 16]
def k0_off103 (k0_t13 : Fin k0_t13_loop.trips) : Fin 3 → Nat :=
  let c0_i32_1419 : BitVec 32 := 0#32
  let v1219 : Index := Scalar.indexCast c0_i32_1419
  let c0_i32_1408 : BitVec 32 := 0#32
  let c0_i32_930 : BitVec 32 := 0#32
  let c1_i32_932 : BitVec 32 := 1#32
  let arg11 : BitVec 32 := Scf.iv c0_i32_930 c1_i32_932 k0_t13
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![0, v1220.toNat, 32]
def k0_off104 (k0_t13 : Fin k0_t13_loop.trips) : Fin 3 → Nat :=
  let c0_i32_1424 : BitVec 32 := 0#32
  let v1235 : Index := Scalar.indexCast c0_i32_1424
  let c0_i32_1408 : BitVec 32 := 0#32
  let c0_i32_930 : BitVec 32 := 0#32
  let c1_i32_932 : BitVec 32 := 1#32
  let arg11 : BitVec 32 := Scf.iv c0_i32_930 c1_i32_932 k0_t13
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![0, v1236.toNat, 48]
def k0_off105 (k0_t13 : Fin k0_t13_loop.trips) : Fin 3 → Nat :=
  let c0_i32_1428 : BitVec 32 := 0#32
  let v1251 : Index := Scalar.indexCast c0_i32_1428
  let c0_i32_1408 : BitVec 32 := 0#32
  let c0_i32_930 : BitVec 32 := 0#32
  let c1_i32_932 : BitVec 32 := 1#32
  let arg11 : BitVec 32 := Scf.iv c0_i32_930 c1_i32_932 k0_t13
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![0, v1252.toNat, 60]
def k0_off106 (i : grid0.Coords) (c0_i32_865 : BitVec 32) : Fin 3 → Nat :=
  let c6_i32_934 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v729 : BitVec 32 := Scalar.addi v1 c0_i32_865
  let c0_i32_935 : BitVec 32 := 0#32
  ![6, v729.toNat, 0]
def k0_off107 (i : grid0.Coords) (c0_i32_968 : BitVec 32) : Fin 4 → Nat :=
  let c7_i32 : BitVec 32 := 7#32
  let c0_i32_972 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v813 : BitVec 32 := Scalar.addi v1 c0_i32_968
  let c0_i32_973 : BitVec 32 := 0#32
  ![7, 0, v813.toNat, 0]
def k0_off108 (i : grid0.Coords) (c0_i32_968 : BitVec 32) : Fin 4 → Nat :=
  let c17_i32 : BitVec 32 := 17#32
  let c0_i32_981 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v813 : BitVec 32 := Scalar.addi v1 c0_i32_968
  let c0_i32_982 : BitVec 32 := 0#32
  ![17, 0, v813.toNat, 0]
def k0_off109 (i : grid0.Coords) (c0_i32_968 : BitVec 32) : Fin 4 → Nat :=
  let c27_i32 : BitVec 32 := 27#32
  let c0_i32_990 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v813 : BitVec 32 := Scalar.addi v1 c0_i32_968
  let c0_i32_991 : BitVec 32 := 0#32
  ![27, 0, v813.toNat, 0]
@[reducible] def k0_t14_loop : Scf.Loop 32 :=
  let c0_i32_999 : BitVec 32 := 0#32
  let c228_i32_1000 : BitVec 32 := 228#32
  let v842 : BitVec 32 := Scalar.addi c0_i32_999 c228_i32_1000
  let c1_i32_1001 : BitVec 32 := 1#32
  ⟨c0_i32_999, v842, c1_i32_1001⟩
def k0_off110 (k0_t14 : Fin k0_t14_loop.trips) : Fin 3 → Nat :=
  let c1_i32_1410 : BitVec 32 := 1#32
  let v1187 : Index := Scalar.indexCast c1_i32_1410
  let c0_i32_1408 : BitVec 32 := 0#32
  let c0_i32_999 : BitVec 32 := 0#32
  let c1_i32_1001 : BitVec 32 := 1#32
  let arg11 : BitVec 32 := Scf.iv c0_i32_999 c1_i32_1001 k0_t14
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off111 (k0_t14 : Fin k0_t14_loop.trips) (c0_i32_1413 : BitVec 32) : Fin 1 → Nat :=
  let c0_i32_1408 : BitVec 32 := 0#32
  let c0_i32_999 : BitVec 32 := 0#32
  let c1_i32_1001 : BitVec 32 := 1#32
  let arg11 : BitVec 32 := Scf.iv c0_i32_999 c1_i32_1001 k0_t14
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off111_at (r : Fin 5) : BitVec 32 :=
  if r.val < 2 then
    if r.val < 1 then
      0#32
    else
      16#32
  else
    if r.val < 3 then
      32#32
    else
      if r.val < 4 then
        48#32
      else
        60#32
def k0_off112 (k0_t14 : Fin k0_t14_loop.trips) : Fin 3 → Nat :=
  let c1_i32_1414 : BitVec 32 := 1#32
  let v1203 : Index := Scalar.indexCast c1_i32_1414
  let c0_i32_1408 : BitVec 32 := 0#32
  let c0_i32_999 : BitVec 32 := 0#32
  let c1_i32_1001 : BitVec 32 := 1#32
  let arg11 : BitVec 32 := Scf.iv c0_i32_999 c1_i32_1001 k0_t14
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![1, v1204.toNat, 16]
def k0_off113 (k0_t14 : Fin k0_t14_loop.trips) : Fin 3 → Nat :=
  let c1_i32_1419 : BitVec 32 := 1#32
  let v1219 : Index := Scalar.indexCast c1_i32_1419
  let c0_i32_1408 : BitVec 32 := 0#32
  let c0_i32_999 : BitVec 32 := 0#32
  let c1_i32_1001 : BitVec 32 := 1#32
  let arg11 : BitVec 32 := Scf.iv c0_i32_999 c1_i32_1001 k0_t14
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![1, v1220.toNat, 32]
def k0_off114 (k0_t14 : Fin k0_t14_loop.trips) : Fin 3 → Nat :=
  let c1_i32_1424 : BitVec 32 := 1#32
  let v1235 : Index := Scalar.indexCast c1_i32_1424
  let c0_i32_1408 : BitVec 32 := 0#32
  let c0_i32_999 : BitVec 32 := 0#32
  let c1_i32_1001 : BitVec 32 := 1#32
  let arg11 : BitVec 32 := Scf.iv c0_i32_999 c1_i32_1001 k0_t14
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![1, v1236.toNat, 48]
def k0_off115 (k0_t14 : Fin k0_t14_loop.trips) : Fin 3 → Nat :=
  let c1_i32_1428 : BitVec 32 := 1#32
  let v1251 : Index := Scalar.indexCast c1_i32_1428
  let c0_i32_1408 : BitVec 32 := 0#32
  let c0_i32_999 : BitVec 32 := 0#32
  let c1_i32_1001 : BitVec 32 := 1#32
  let arg11 : BitVec 32 := Scf.iv c0_i32_999 c1_i32_1001 k0_t14
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![1, v1252.toNat, 60]
@[reducible] def k0_t15_loop : Scf.Loop 32 :=
  let c0_i32_1071 : BitVec 32 := 0#32
  let c228_i32_1072 : BitVec 32 := 228#32
  let v901 : BitVec 32 := Scalar.addi c0_i32_1071 c228_i32_1072
  let c1_i32_1073 : BitVec 32 := 1#32
  ⟨c0_i32_1071, v901, c1_i32_1073⟩
def k0_off116 (k0_t15 : Fin k0_t15_loop.trips) : Fin 3 → Nat :=
  let c0_i32_1410 : BitVec 32 := 0#32
  let v1187 : Index := Scalar.indexCast c0_i32_1410
  let c0_i32_1408 : BitVec 32 := 0#32
  let c0_i32_1071 : BitVec 32 := 0#32
  let c1_i32_1073 : BitVec 32 := 1#32
  let arg11 : BitVec 32 := Scf.iv c0_i32_1071 c1_i32_1073 k0_t15
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off117 (k0_t15 : Fin k0_t15_loop.trips) (c0_i32_1413 : BitVec 32) : Fin 1 → Nat :=
  let c0_i32_1408 : BitVec 32 := 0#32
  let c0_i32_1071 : BitVec 32 := 0#32
  let c1_i32_1073 : BitVec 32 := 1#32
  let arg11 : BitVec 32 := Scf.iv c0_i32_1071 c1_i32_1073 k0_t15
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off117_at (r : Fin 5) : BitVec 32 :=
  if r.val < 2 then
    if r.val < 1 then
      0#32
    else
      16#32
  else
    if r.val < 3 then
      32#32
    else
      if r.val < 4 then
        48#32
      else
        60#32
def k0_off118 (k0_t15 : Fin k0_t15_loop.trips) : Fin 3 → Nat :=
  let c0_i32_1414 : BitVec 32 := 0#32
  let v1203 : Index := Scalar.indexCast c0_i32_1414
  let c0_i32_1408 : BitVec 32 := 0#32
  let c0_i32_1071 : BitVec 32 := 0#32
  let c1_i32_1073 : BitVec 32 := 1#32
  let arg11 : BitVec 32 := Scf.iv c0_i32_1071 c1_i32_1073 k0_t15
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![0, v1204.toNat, 16]
def k0_off119 (k0_t15 : Fin k0_t15_loop.trips) : Fin 3 → Nat :=
  let c0_i32_1419 : BitVec 32 := 0#32
  let v1219 : Index := Scalar.indexCast c0_i32_1419
  let c0_i32_1408 : BitVec 32 := 0#32
  let c0_i32_1071 : BitVec 32 := 0#32
  let c1_i32_1073 : BitVec 32 := 1#32
  let arg11 : BitVec 32 := Scf.iv c0_i32_1071 c1_i32_1073 k0_t15
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![0, v1220.toNat, 32]
def k0_off120 (k0_t15 : Fin k0_t15_loop.trips) : Fin 3 → Nat :=
  let c0_i32_1424 : BitVec 32 := 0#32
  let v1235 : Index := Scalar.indexCast c0_i32_1424
  let c0_i32_1408 : BitVec 32 := 0#32
  let c0_i32_1071 : BitVec 32 := 0#32
  let c1_i32_1073 : BitVec 32 := 1#32
  let arg11 : BitVec 32 := Scf.iv c0_i32_1071 c1_i32_1073 k0_t15
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![0, v1236.toNat, 48]
def k0_off121 (k0_t15 : Fin k0_t15_loop.trips) : Fin 3 → Nat :=
  let c0_i32_1428 : BitVec 32 := 0#32
  let v1251 : Index := Scalar.indexCast c0_i32_1428
  let c0_i32_1408 : BitVec 32 := 0#32
  let c0_i32_1071 : BitVec 32 := 0#32
  let c1_i32_1073 : BitVec 32 := 1#32
  let arg11 : BitVec 32 := Scf.iv c0_i32_1071 c1_i32_1073 k0_t15
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![0, v1252.toNat, 60]
def k0_off122 (i : grid0.Coords) (c0_i32_1006 : BitVec 32) : Fin 3 → Nat :=
  let c7_i32_1075 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v847 : BitVec 32 := Scalar.addi v1 c0_i32_1006
  let c0_i32_1076 : BitVec 32 := 0#32
  ![7, v847.toNat, 0]
def k0_off123 (i : grid0.Coords) (c0_i32_1109 : BitVec 32) : Fin 4 → Nat :=
  let c8_i32 : BitVec 32 := 8#32
  let c0_i32_1113 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v931 : BitVec 32 := Scalar.addi v1 c0_i32_1109
  let c0_i32_1114 : BitVec 32 := 0#32
  ![8, 0, v931.toNat, 0]
def k0_off124 (i : grid0.Coords) (c0_i32_1109 : BitVec 32) : Fin 4 → Nat :=
  let c18_i32 : BitVec 32 := 18#32
  let c0_i32_1122 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v931 : BitVec 32 := Scalar.addi v1 c0_i32_1109
  let c0_i32_1123 : BitVec 32 := 0#32
  ![18, 0, v931.toNat, 0]
def k0_off125 (i : grid0.Coords) (c0_i32_1109 : BitVec 32) : Fin 4 → Nat :=
  let c28_i32 : BitVec 32 := 28#32
  let c0_i32_1131 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v931 : BitVec 32 := Scalar.addi v1 c0_i32_1109
  let c0_i32_1132 : BitVec 32 := 0#32
  ![28, 0, v931.toNat, 0]
@[reducible] def k0_t16_loop : Scf.Loop 32 :=
  let c0_i32_1140 : BitVec 32 := 0#32
  let c228_i32_1141 : BitVec 32 := 228#32
  let v960 : BitVec 32 := Scalar.addi c0_i32_1140 c228_i32_1141
  let c1_i32_1142 : BitVec 32 := 1#32
  ⟨c0_i32_1140, v960, c1_i32_1142⟩
def k0_off126 (k0_t16 : Fin k0_t16_loop.trips) : Fin 3 → Nat :=
  let c1_i32_1410 : BitVec 32 := 1#32
  let v1187 : Index := Scalar.indexCast c1_i32_1410
  let c0_i32_1408 : BitVec 32 := 0#32
  let c0_i32_1140 : BitVec 32 := 0#32
  let c1_i32_1142 : BitVec 32 := 1#32
  let arg11 : BitVec 32 := Scf.iv c0_i32_1140 c1_i32_1142 k0_t16
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off127 (k0_t16 : Fin k0_t16_loop.trips) (c0_i32_1413 : BitVec 32) : Fin 1 → Nat :=
  let c0_i32_1408 : BitVec 32 := 0#32
  let c0_i32_1140 : BitVec 32 := 0#32
  let c1_i32_1142 : BitVec 32 := 1#32
  let arg11 : BitVec 32 := Scf.iv c0_i32_1140 c1_i32_1142 k0_t16
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off127_at (r : Fin 5) : BitVec 32 :=
  if r.val < 2 then
    if r.val < 1 then
      0#32
    else
      16#32
  else
    if r.val < 3 then
      32#32
    else
      if r.val < 4 then
        48#32
      else
        60#32
def k0_off128 (k0_t16 : Fin k0_t16_loop.trips) : Fin 3 → Nat :=
  let c1_i32_1414 : BitVec 32 := 1#32
  let v1203 : Index := Scalar.indexCast c1_i32_1414
  let c0_i32_1408 : BitVec 32 := 0#32
  let c0_i32_1140 : BitVec 32 := 0#32
  let c1_i32_1142 : BitVec 32 := 1#32
  let arg11 : BitVec 32 := Scf.iv c0_i32_1140 c1_i32_1142 k0_t16
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![1, v1204.toNat, 16]
def k0_off129 (k0_t16 : Fin k0_t16_loop.trips) : Fin 3 → Nat :=
  let c1_i32_1419 : BitVec 32 := 1#32
  let v1219 : Index := Scalar.indexCast c1_i32_1419
  let c0_i32_1408 : BitVec 32 := 0#32
  let c0_i32_1140 : BitVec 32 := 0#32
  let c1_i32_1142 : BitVec 32 := 1#32
  let arg11 : BitVec 32 := Scf.iv c0_i32_1140 c1_i32_1142 k0_t16
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![1, v1220.toNat, 32]
def k0_off130 (k0_t16 : Fin k0_t16_loop.trips) : Fin 3 → Nat :=
  let c1_i32_1424 : BitVec 32 := 1#32
  let v1235 : Index := Scalar.indexCast c1_i32_1424
  let c0_i32_1408 : BitVec 32 := 0#32
  let c0_i32_1140 : BitVec 32 := 0#32
  let c1_i32_1142 : BitVec 32 := 1#32
  let arg11 : BitVec 32 := Scf.iv c0_i32_1140 c1_i32_1142 k0_t16
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![1, v1236.toNat, 48]
def k0_off131 (k0_t16 : Fin k0_t16_loop.trips) : Fin 3 → Nat :=
  let c1_i32_1428 : BitVec 32 := 1#32
  let v1251 : Index := Scalar.indexCast c1_i32_1428
  let c0_i32_1408 : BitVec 32 := 0#32
  let c0_i32_1140 : BitVec 32 := 0#32
  let c1_i32_1142 : BitVec 32 := 1#32
  let arg11 : BitVec 32 := Scf.iv c0_i32_1140 c1_i32_1142 k0_t16
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![1, v1252.toNat, 60]
@[reducible] def k0_t17_loop : Scf.Loop 32 :=
  let c0_i32_1212 : BitVec 32 := 0#32
  let c228_i32_1213 : BitVec 32 := 228#32
  let v1019 : BitVec 32 := Scalar.addi c0_i32_1212 c228_i32_1213
  let c1_i32_1214 : BitVec 32 := 1#32
  ⟨c0_i32_1212, v1019, c1_i32_1214⟩
def k0_off132 (k0_t17 : Fin k0_t17_loop.trips) : Fin 3 → Nat :=
  let c0_i32_1410 : BitVec 32 := 0#32
  let v1187 : Index := Scalar.indexCast c0_i32_1410
  let c0_i32_1408 : BitVec 32 := 0#32
  let c0_i32_1212 : BitVec 32 := 0#32
  let c1_i32_1214 : BitVec 32 := 1#32
  let arg11 : BitVec 32 := Scf.iv c0_i32_1212 c1_i32_1214 k0_t17
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off133 (k0_t17 : Fin k0_t17_loop.trips) (c0_i32_1413 : BitVec 32) : Fin 1 → Nat :=
  let c0_i32_1408 : BitVec 32 := 0#32
  let c0_i32_1212 : BitVec 32 := 0#32
  let c1_i32_1214 : BitVec 32 := 1#32
  let arg11 : BitVec 32 := Scf.iv c0_i32_1212 c1_i32_1214 k0_t17
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off133_at (r : Fin 5) : BitVec 32 :=
  if r.val < 2 then
    if r.val < 1 then
      0#32
    else
      16#32
  else
    if r.val < 3 then
      32#32
    else
      if r.val < 4 then
        48#32
      else
        60#32
def k0_off134 (k0_t17 : Fin k0_t17_loop.trips) : Fin 3 → Nat :=
  let c0_i32_1414 : BitVec 32 := 0#32
  let v1203 : Index := Scalar.indexCast c0_i32_1414
  let c0_i32_1408 : BitVec 32 := 0#32
  let c0_i32_1212 : BitVec 32 := 0#32
  let c1_i32_1214 : BitVec 32 := 1#32
  let arg11 : BitVec 32 := Scf.iv c0_i32_1212 c1_i32_1214 k0_t17
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![0, v1204.toNat, 16]
def k0_off135 (k0_t17 : Fin k0_t17_loop.trips) : Fin 3 → Nat :=
  let c0_i32_1419 : BitVec 32 := 0#32
  let v1219 : Index := Scalar.indexCast c0_i32_1419
  let c0_i32_1408 : BitVec 32 := 0#32
  let c0_i32_1212 : BitVec 32 := 0#32
  let c1_i32_1214 : BitVec 32 := 1#32
  let arg11 : BitVec 32 := Scf.iv c0_i32_1212 c1_i32_1214 k0_t17
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![0, v1220.toNat, 32]
def k0_off136 (k0_t17 : Fin k0_t17_loop.trips) : Fin 3 → Nat :=
  let c0_i32_1424 : BitVec 32 := 0#32
  let v1235 : Index := Scalar.indexCast c0_i32_1424
  let c0_i32_1408 : BitVec 32 := 0#32
  let c0_i32_1212 : BitVec 32 := 0#32
  let c1_i32_1214 : BitVec 32 := 1#32
  let arg11 : BitVec 32 := Scf.iv c0_i32_1212 c1_i32_1214 k0_t17
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![0, v1236.toNat, 48]
def k0_off137 (k0_t17 : Fin k0_t17_loop.trips) : Fin 3 → Nat :=
  let c0_i32_1428 : BitVec 32 := 0#32
  let v1251 : Index := Scalar.indexCast c0_i32_1428
  let c0_i32_1408 : BitVec 32 := 0#32
  let c0_i32_1212 : BitVec 32 := 0#32
  let c1_i32_1214 : BitVec 32 := 1#32
  let arg11 : BitVec 32 := Scf.iv c0_i32_1212 c1_i32_1214 k0_t17
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![0, v1252.toNat, 60]
def k0_off138 (i : grid0.Coords) (c0_i32_1147 : BitVec 32) : Fin 3 → Nat :=
  let c8_i32_1216 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v965 : BitVec 32 := Scalar.addi v1 c0_i32_1147
  let c0_i32_1217 : BitVec 32 := 0#32
  ![8, v965.toNat, 0]
def k0_off139 (i : grid0.Coords) (c0_i32_1250 : BitVec 32) : Fin 4 → Nat :=
  let c9_i32 : BitVec 32 := 9#32
  let c0_i32_1254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1049 : BitVec 32 := Scalar.addi v1 c0_i32_1250
  let c0_i32_1255 : BitVec 32 := 0#32
  ![9, 0, v1049.toNat, 0]
def k0_off140 (i : grid0.Coords) (c0_i32_1250 : BitVec 32) : Fin 4 → Nat :=
  let c19_i32 : BitVec 32 := 19#32
  let c0_i32_1263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1049 : BitVec 32 := Scalar.addi v1 c0_i32_1250
  let c0_i32_1264 : BitVec 32 := 0#32
  ![19, 0, v1049.toNat, 0]
def k0_off141 (i : grid0.Coords) (c0_i32_1250 : BitVec 32) : Fin 4 → Nat :=
  let c29_i32 : BitVec 32 := 29#32
  let c0_i32_1272 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1049 : BitVec 32 := Scalar.addi v1 c0_i32_1250
  let c0_i32_1273 : BitVec 32 := 0#32
  ![29, 0, v1049.toNat, 0]
@[reducible] def k0_t18_loop : Scf.Loop 32 :=
  let c0_i32_1281 : BitVec 32 := 0#32
  let c228_i32_1282 : BitVec 32 := 228#32
  let v1078 : BitVec 32 := Scalar.addi c0_i32_1281 c228_i32_1282
  let c1_i32_1283 : BitVec 32 := 1#32
  ⟨c0_i32_1281, v1078, c1_i32_1283⟩
def k0_off142 (k0_t18 : Fin k0_t18_loop.trips) : Fin 3 → Nat :=
  let c1_i32_1410 : BitVec 32 := 1#32
  let v1187 : Index := Scalar.indexCast c1_i32_1410
  let c0_i32_1408 : BitVec 32 := 0#32
  let c0_i32_1281 : BitVec 32 := 0#32
  let c1_i32_1283 : BitVec 32 := 1#32
  let arg11 : BitVec 32 := Scf.iv c0_i32_1281 c1_i32_1283 k0_t18
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off143 (k0_t18 : Fin k0_t18_loop.trips) (c0_i32_1413 : BitVec 32) : Fin 1 → Nat :=
  let c0_i32_1408 : BitVec 32 := 0#32
  let c0_i32_1281 : BitVec 32 := 0#32
  let c1_i32_1283 : BitVec 32 := 1#32
  let arg11 : BitVec 32 := Scf.iv c0_i32_1281 c1_i32_1283 k0_t18
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off143_at (r : Fin 5) : BitVec 32 :=
  if r.val < 2 then
    if r.val < 1 then
      0#32
    else
      16#32
  else
    if r.val < 3 then
      32#32
    else
      if r.val < 4 then
        48#32
      else
        60#32
def k0_off144 (k0_t18 : Fin k0_t18_loop.trips) : Fin 3 → Nat :=
  let c1_i32_1414 : BitVec 32 := 1#32
  let v1203 : Index := Scalar.indexCast c1_i32_1414
  let c0_i32_1408 : BitVec 32 := 0#32
  let c0_i32_1281 : BitVec 32 := 0#32
  let c1_i32_1283 : BitVec 32 := 1#32
  let arg11 : BitVec 32 := Scf.iv c0_i32_1281 c1_i32_1283 k0_t18
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![1, v1204.toNat, 16]
def k0_off145 (k0_t18 : Fin k0_t18_loop.trips) : Fin 3 → Nat :=
  let c1_i32_1419 : BitVec 32 := 1#32
  let v1219 : Index := Scalar.indexCast c1_i32_1419
  let c0_i32_1408 : BitVec 32 := 0#32
  let c0_i32_1281 : BitVec 32 := 0#32
  let c1_i32_1283 : BitVec 32 := 1#32
  let arg11 : BitVec 32 := Scf.iv c0_i32_1281 c1_i32_1283 k0_t18
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![1, v1220.toNat, 32]
def k0_off146 (k0_t18 : Fin k0_t18_loop.trips) : Fin 3 → Nat :=
  let c1_i32_1424 : BitVec 32 := 1#32
  let v1235 : Index := Scalar.indexCast c1_i32_1424
  let c0_i32_1408 : BitVec 32 := 0#32
  let c0_i32_1281 : BitVec 32 := 0#32
  let c1_i32_1283 : BitVec 32 := 1#32
  let arg11 : BitVec 32 := Scf.iv c0_i32_1281 c1_i32_1283 k0_t18
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![1, v1236.toNat, 48]
def k0_off147 (k0_t18 : Fin k0_t18_loop.trips) : Fin 3 → Nat :=
  let c1_i32_1428 : BitVec 32 := 1#32
  let v1251 : Index := Scalar.indexCast c1_i32_1428
  let c0_i32_1408 : BitVec 32 := 0#32
  let c0_i32_1281 : BitVec 32 := 0#32
  let c1_i32_1283 : BitVec 32 := 1#32
  let arg11 : BitVec 32 := Scf.iv c0_i32_1281 c1_i32_1283 k0_t18
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![1, v1252.toNat, 60]
@[reducible] def k0_t19_loop : Scf.Loop 32 :=
  let c0_i32_1353 : BitVec 32 := 0#32
  let c228_i32_1354 : BitVec 32 := 228#32
  let v1137 : BitVec 32 := Scalar.addi c0_i32_1353 c228_i32_1354
  let c1_i32_1355 : BitVec 32 := 1#32
  ⟨c0_i32_1353, v1137, c1_i32_1355⟩
def k0_off148 (k0_t19 : Fin k0_t19_loop.trips) : Fin 3 → Nat :=
  let c0_i32_1410 : BitVec 32 := 0#32
  let v1187 : Index := Scalar.indexCast c0_i32_1410
  let c0_i32_1408 : BitVec 32 := 0#32
  let c0_i32_1353 : BitVec 32 := 0#32
  let c1_i32_1355 : BitVec 32 := 1#32
  let arg11 : BitVec 32 := Scf.iv c0_i32_1353 c1_i32_1355 k0_t19
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![0, v1188.toNat, 0]
def k0_off149 (k0_t19 : Fin k0_t19_loop.trips) (c0_i32_1413 : BitVec 32) : Fin 1 → Nat :=
  let c0_i32_1408 : BitVec 32 := 0#32
  let c0_i32_1353 : BitVec 32 := 0#32
  let c1_i32_1355 : BitVec 32 := 1#32
  let arg11 : BitVec 32 := Scf.iv c0_i32_1353 c1_i32_1355 k0_t19
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off149_at (r : Fin 5) : BitVec 32 :=
  if r.val < 2 then
    if r.val < 1 then
      0#32
    else
      16#32
  else
    if r.val < 3 then
      32#32
    else
      if r.val < 4 then
        48#32
      else
        60#32
def k0_off150 (k0_t19 : Fin k0_t19_loop.trips) : Fin 3 → Nat :=
  let c0_i32_1414 : BitVec 32 := 0#32
  let v1203 : Index := Scalar.indexCast c0_i32_1414
  let c0_i32_1408 : BitVec 32 := 0#32
  let c0_i32_1353 : BitVec 32 := 0#32
  let c1_i32_1355 : BitVec 32 := 1#32
  let arg11 : BitVec 32 := Scf.iv c0_i32_1353 c1_i32_1355 k0_t19
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![0, v1204.toNat, 16]
def k0_off151 (k0_t19 : Fin k0_t19_loop.trips) : Fin 3 → Nat :=
  let c0_i32_1419 : BitVec 32 := 0#32
  let v1219 : Index := Scalar.indexCast c0_i32_1419
  let c0_i32_1408 : BitVec 32 := 0#32
  let c0_i32_1353 : BitVec 32 := 0#32
  let c1_i32_1355 : BitVec 32 := 1#32
  let arg11 : BitVec 32 := Scf.iv c0_i32_1353 c1_i32_1355 k0_t19
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![0, v1220.toNat, 32]
def k0_off152 (k0_t19 : Fin k0_t19_loop.trips) : Fin 3 → Nat :=
  let c0_i32_1424 : BitVec 32 := 0#32
  let v1235 : Index := Scalar.indexCast c0_i32_1424
  let c0_i32_1408 : BitVec 32 := 0#32
  let c0_i32_1353 : BitVec 32 := 0#32
  let c1_i32_1355 : BitVec 32 := 1#32
  let arg11 : BitVec 32 := Scf.iv c0_i32_1353 c1_i32_1355 k0_t19
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![0, v1236.toNat, 48]
def k0_off153 (k0_t19 : Fin k0_t19_loop.trips) : Fin 3 → Nat :=
  let c0_i32_1428 : BitVec 32 := 0#32
  let v1251 : Index := Scalar.indexCast c0_i32_1428
  let c0_i32_1408 : BitVec 32 := 0#32
  let c0_i32_1353 : BitVec 32 := 0#32
  let c1_i32_1355 : BitVec 32 := 1#32
  let arg11 : BitVec 32 := Scf.iv c0_i32_1353 c1_i32_1355 k0_t19
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![0, v1252.toNat, 60]
def k0_off154 (i : grid0.Coords) (c0_i32_1288 : BitVec 32) : Fin 3 → Nat :=
  let c9_i32_1357 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1083 : BitVec 32 := Scalar.addi v1 c0_i32_1288
  let c0_i32_1358 : BitVec 32 := 0#32
  ![9, v1083.toNat, 0]
@[reducible] def k0_t20_loop : Scf.Loop 32 :=
  let c0_i32_1394 : BitVec 32 := 0#32
  let c228_i32_1395 : BitVec 32 := 228#32
  let v1171 : BitVec 32 := Scalar.addi c0_i32_1394 c228_i32_1395
  let c1_i32_1396 : BitVec 32 := 1#32
  ⟨c0_i32_1394, v1171, c1_i32_1396⟩
def k0_off155 (k0_t20 : Fin k0_t20_loop.trips) : Fin 3 → Nat :=
  let c1_i32_1410 : BitVec 32 := 1#32
  let v1187 : Index := Scalar.indexCast c1_i32_1410
  let c0_i32_1408 : BitVec 32 := 0#32
  let c0_i32_1394 : BitVec 32 := 0#32
  let c1_i32_1396 : BitVec 32 := 1#32
  let arg11 : BitVec 32 := Scf.iv c0_i32_1394 c1_i32_1396 k0_t20
  let c1_i32_1407 : BitVec 32 := 1#32
  let v1184 : BitVec 32 := Scalar.muli arg11 c1_i32_1407
  let v1185 : BitVec 32 := Scalar.addi c0_i32_1408 v1184
  let v1188 : Index := Scalar.indexCast v1185
  let c0 : Index := 0#32
  ![1, v1188.toNat, 0]
def k0_off156 (k0_t20 : Fin k0_t20_loop.trips) (c0_i32_1413 : BitVec 32) : Fin 1 → Nat :=
  let c0_i32_1408 : BitVec 32 := 0#32
  let c0_i32_1394 : BitVec 32 := 0#32
  let c1_i32_1396 : BitVec 32 := 1#32
  let arg11 : BitVec 32 := Scf.iv c0_i32_1394 c1_i32_1396 k0_t20
  let c1_i32_1407 : BitVec 32 := 1#32
  let v1184 : BitVec 32 := Scalar.muli arg11 c1_i32_1407
  let v1185 : BitVec 32 := Scalar.addi c0_i32_1408 v1184
  let c76_i32_1409 : BitVec 32 := 76#32
  let v1186 : BitVec 32 := Scalar.muli v1185 c76_i32_1409
  let v1198 : BitVec 32 := Scalar.addi v1186 c0_i32_1413
  let v1199 : Index := Scalar.indexCast v1198
  ![v1199.toNat]
def k0_off156_at (r : Fin 5) : BitVec 32 :=
  if r.val < 2 then
    if r.val < 1 then
      0#32
    else
      16#32
  else
    if r.val < 3 then
      32#32
    else
      if r.val < 4 then
        48#32
      else
        60#32
def k0_off157 (k0_t20 : Fin k0_t20_loop.trips) : Fin 3 → Nat :=
  let c1_i32_1414 : BitVec 32 := 1#32
  let v1203 : Index := Scalar.indexCast c1_i32_1414
  let c0_i32_1408 : BitVec 32 := 0#32
  let c0_i32_1394 : BitVec 32 := 0#32
  let c1_i32_1396 : BitVec 32 := 1#32
  let arg11 : BitVec 32 := Scf.iv c0_i32_1394 c1_i32_1396 k0_t20
  let c1_i32_1407 : BitVec 32 := 1#32
  let v1184 : BitVec 32 := Scalar.muli arg11 c1_i32_1407
  let v1185 : BitVec 32 := Scalar.addi c0_i32_1408 v1184
  let v1204 : Index := Scalar.indexCast v1185
  let c16 : Index := 16#32
  ![1, v1204.toNat, 16]
def k0_off158 (k0_t20 : Fin k0_t20_loop.trips) : Fin 3 → Nat :=
  let c1_i32_1419 : BitVec 32 := 1#32
  let v1219 : Index := Scalar.indexCast c1_i32_1419
  let c0_i32_1408 : BitVec 32 := 0#32
  let c0_i32_1394 : BitVec 32 := 0#32
  let c1_i32_1396 : BitVec 32 := 1#32
  let arg11 : BitVec 32 := Scf.iv c0_i32_1394 c1_i32_1396 k0_t20
  let c1_i32_1407 : BitVec 32 := 1#32
  let v1184 : BitVec 32 := Scalar.muli arg11 c1_i32_1407
  let v1185 : BitVec 32 := Scalar.addi c0_i32_1408 v1184
  let v1220 : Index := Scalar.indexCast v1185
  let c32 : Index := 32#32
  ![1, v1220.toNat, 32]
def k0_off159 (k0_t20 : Fin k0_t20_loop.trips) : Fin 3 → Nat :=
  let c1_i32_1424 : BitVec 32 := 1#32
  let v1235 : Index := Scalar.indexCast c1_i32_1424
  let c0_i32_1408 : BitVec 32 := 0#32
  let c0_i32_1394 : BitVec 32 := 0#32
  let c1_i32_1396 : BitVec 32 := 1#32
  let arg11 : BitVec 32 := Scf.iv c0_i32_1394 c1_i32_1396 k0_t20
  let c1_i32_1407 : BitVec 32 := 1#32
  let v1184 : BitVec 32 := Scalar.muli arg11 c1_i32_1407
  let v1185 : BitVec 32 := Scalar.addi c0_i32_1408 v1184
  let v1236 : Index := Scalar.indexCast v1185
  let c48 : Index := 48#32
  ![1, v1236.toNat, 48]
def k0_off160 (k0_t20 : Fin k0_t20_loop.trips) : Fin 3 → Nat :=
  let c1_i32_1428 : BitVec 32 := 1#32
  let v1251 : Index := Scalar.indexCast c1_i32_1428
  let c0_i32_1408 : BitVec 32 := 0#32
  let c0_i32_1394 : BitVec 32 := 0#32
  let c1_i32_1396 : BitVec 32 := 1#32
  let arg11 : BitVec 32 := Scf.iv c0_i32_1394 c1_i32_1396 k0_t20
  let c1_i32_1407 : BitVec 32 := 1#32
  let v1184 : BitVec 32 := Scalar.muli arg11 c1_i32_1407
  let v1185 : BitVec 32 := Scalar.addi c0_i32_1408 v1184
  let v1252 : Index := Scalar.indexCast v1185
  let c60 : Index := 60#32
  ![1, v1252.toNat, 60]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x30x76x76 : Shape := ⟨4, ![64, 30, 76, 76]⟩
abbrev S3x4 : Shape := ⟨2, ![3, 4]⟩
abbrev S64x3x10x76x76 : Shape := ⟨5, ![64, 3, 10, 76, 76]⟩
abbrev S64x3x76x76x10 : Shape := ⟨5, ![64, 3, 76, 76, 10]⟩
abbrev S64x3x76x76x1 : Shape := ⟨5, ![64, 3, 76, 76, 1]⟩
abbrev S64x3x76x76 : Shape := ⟨4, ![64, 3, 76, 76]⟩
abbrev S_ : Shape := ⟨0, ![]⟩
abbrev S64x3x76x76x3 : Shape := ⟨5, ![64, 3, 76, 76, 3]⟩
abbrev S76 : Shape := ⟨1, ![76]⟩
abbrev S1x76 : Shape := ⟨2, ![1, 76]⟩
abbrev S1x1x1x76 : Shape := ⟨4, ![1, 1, 1, 76]⟩
abbrev S76x1x1x76 : Shape := ⟨4, ![76, 1, 1, 76]⟩
abbrev S76x76 : Shape := ⟨2, ![76, 76]⟩
abbrev S1x1x76x76 : Shape := ⟨4, ![1, 1, 76, 76]⟩
abbrev S3x1 : Shape := ⟨2, ![3, 1]⟩
abbrev S3 : Shape := ⟨1, ![3]⟩
abbrev S1x3x1x1 : Shape := ⟨4, ![1, 3, 1, 1]⟩
abbrev S64x3x76x76x6 : Shape := ⟨5, ![64, 3, 76, 76, 6]⟩
abbrev S64x3x76x76x4 : Shape := ⟨5, ![64, 3, 76, 76, 4]⟩
abbrev S64x17328x4 : Shape := ⟨3, ![64, 17328, 4]⟩
abbrev S64x3x76x76x2 : Shape := ⟨5, ![64, 3, 76, 76, 2]⟩
abbrev S64x17328x2 : Shape := ⟨3, ![64, 17328, 2]⟩
abbrev S64x17328x1 : Shape := ⟨3, ![64, 17328, 1]⟩
abbrev S64x17328x3 : Shape := ⟨3, ![64, 17328, 3]⟩
abbrev S64x17328x10 : Shape := ⟨3, ![64, 17328, 10]⟩

abbrev nBuf : Space → Nat
  | .hbm => 97
  | .vmem => 0
  | .smem => 0
  | _ => 0

abbrev bufTy : (tb : Table) → Fin (tcTables nBuf tb) → BufTy
  | .hbm, ⟨0, _⟩ => ⟨S64x30x76x76, .f32⟩
  | .hbm, ⟨1, _⟩ => ⟨S3x4, .f32⟩
  | .hbm, ⟨2, _⟩ => ⟨S64x3x10x76x76, .f32⟩
  | .hbm, ⟨3, _⟩ => ⟨S64x3x76x76x10, .f32⟩
  | .hbm, ⟨4, _⟩ => ⟨S64x3x76x76x1, .f32⟩
  | .hbm, ⟨5, _⟩ => ⟨S64x3x76x76, .f32⟩
  | .hbm, ⟨6, _⟩ => ⟨S64x3x76x76, .f32⟩
  | .hbm, ⟨7, _⟩ => ⟨S64x3x76x76, .f32⟩
  | .hbm, ⟨8, _⟩ => ⟨S_, .f32⟩
  | .hbm, ⟨9, _⟩ => ⟨S64x3x76x76, .f32⟩
  | .hbm, ⟨10, _⟩ => ⟨S64x3x76x76, .f32⟩
  | .hbm, ⟨11, _⟩ => ⟨S_, .f32⟩
  | .hbm, ⟨12, _⟩ => ⟨S64x3x76x76, .f32⟩
  | .hbm, ⟨13, _⟩ => ⟨S64x3x76x76, .f32⟩
  | .hbm, ⟨14, _⟩ => ⟨S64x3x76x76x1, .f32⟩
  | .hbm, ⟨15, _⟩ => ⟨S64x3x76x76, .f32⟩
  | .hbm, ⟨16, _⟩ => ⟨S64x3x76x76, .f32⟩
  | .hbm, ⟨17, _⟩ => ⟨S64x3x76x76, .f32⟩
  | .hbm, ⟨18, _⟩ => ⟨S_, .f32⟩
  | .hbm, ⟨19, _⟩ => ⟨S64x3x76x76, .f32⟩
  | .hbm, ⟨20, _⟩ => ⟨S64x3x76x76, .f32⟩
  | .hbm, ⟨21, _⟩ => ⟨S_, .f32⟩
  | .hbm, ⟨22, _⟩ => ⟨S64x3x76x76, .f32⟩
  | .hbm, ⟨23, _⟩ => ⟨S64x3x76x76, .f32⟩
  | .hbm, ⟨24, _⟩ => ⟨S64x3x76x76x1, .f32⟩
  | .hbm, ⟨25, _⟩ => ⟨S64x3x76x76, .f32⟩
  | .hbm, ⟨26, _⟩ => ⟨S64x3x76x76x1, .f32⟩
  | .hbm, ⟨27, _⟩ => ⟨S64x3x76x76, .f32⟩
  | .hbm, ⟨28, _⟩ => ⟨S64x3x76x76x1, .f32⟩
  | .hbm, ⟨29, _⟩ => ⟨S64x3x76x76, .f32⟩
  | .hbm, ⟨30, _⟩ => ⟨S64x3x76x76x1, .f32⟩
  | .hbm, ⟨31, _⟩ => ⟨S64x3x76x76, .f32⟩
  | .hbm, ⟨32, _⟩ => ⟨S64x3x76x76x1, .f32⟩
  | .hbm, ⟨33, _⟩ => ⟨S64x3x76x76, .f32⟩
  | .hbm, ⟨34, _⟩ => ⟨S64x3x76x76, .f32⟩
  | .hbm, ⟨35, _⟩ => ⟨S64x3x76x76, .f32⟩
  | .hbm, ⟨36, _⟩ => ⟨S_, .f32⟩
  | .hbm, ⟨37, _⟩ => ⟨S64x3x76x76, .f32⟩
  | .hbm, ⟨38, _⟩ => ⟨S64x3x76x76, .f32⟩
  | .hbm, ⟨39, _⟩ => ⟨S_, .f32⟩
  | .hbm, ⟨40, _⟩ => ⟨S64x3x76x76, .f32⟩
  | .hbm, ⟨41, _⟩ => ⟨S64x3x76x76, .f32⟩
  | .hbm, ⟨42, _⟩ => ⟨S64x3x76x76x3, .f32⟩
  | .hbm, ⟨43, _⟩ => ⟨S64x3x76x76x3, .f32⟩
  | .hbm, ⟨44, _⟩ => ⟨S64x3x76x76x3, .f32⟩
  | .hbm, ⟨45, _⟩ => ⟨S_, .f32⟩
  | .hbm, ⟨46, _⟩ => ⟨S64x3x76x76x3, .f32⟩
  | .hbm, ⟨47, _⟩ => ⟨S64x3x76x76x3, .f32⟩
  | .hbm, ⟨48, _⟩ => ⟨S_, .f32⟩
  | .hbm, ⟨49, _⟩ => ⟨S64x3x76x76x3, .f32⟩
  | .hbm, ⟨50, _⟩ => ⟨S64x3x76x76x3, .f32⟩
  | .hbm, ⟨51, _⟩ => ⟨S76, .f32⟩
  | .hbm, ⟨52, _⟩ => ⟨S1x76, .f32⟩
  | .hbm, ⟨53, _⟩ => ⟨S1x1x1x76, .f32⟩
  | .hbm, ⟨54, _⟩ => ⟨S76x1x1x76, .f32⟩
  | .hbm, ⟨55, _⟩ => ⟨S76x76, .f32⟩
  | .hbm, ⟨56, _⟩ => ⟨S1x1x76x76, .f32⟩
  | .hbm, ⟨57, _⟩ => ⟨S76, .f32⟩
  | .hbm, ⟨58, _⟩ => ⟨S1x76, .f32⟩
  | .hbm, ⟨59, _⟩ => ⟨S1x1x1x76, .f32⟩
  | .hbm, ⟨60, _⟩ => ⟨S76x1x1x76, .f32⟩
  | .hbm, ⟨61, _⟩ => ⟨S76x76, .f32⟩
  | .hbm, ⟨62, _⟩ => ⟨S76x76, .f32⟩
  | .hbm, ⟨63, _⟩ => ⟨S1x1x76x76, .f32⟩
  | .hbm, ⟨64, _⟩ => ⟨S3x1, .f32⟩
  | .hbm, ⟨65, _⟩ => ⟨S3, .f32⟩
  | .hbm, ⟨66, _⟩ => ⟨S1x3x1x1, .f32⟩
  | .hbm, ⟨67, _⟩ => ⟨S3x1, .f32⟩
  | .hbm, ⟨68, _⟩ => ⟨S3, .f32⟩
  | .hbm, ⟨69, _⟩ => ⟨S1x3x1x1, .f32⟩
  | .hbm, ⟨70, _⟩ => ⟨S64x3x76x76, .f32⟩
  | .hbm, ⟨71, _⟩ => ⟨S64x3x76x76, .f32⟩
  | .hbm, ⟨72, _⟩ => ⟨S64x3x76x76, .f32⟩
  | .hbm, ⟨73, _⟩ => ⟨S64x3x76x76, .f32⟩
  | .hbm, ⟨74, _⟩ => ⟨S64x3x76x76, .f32⟩
  | .hbm, ⟨75, _⟩ => ⟨S64x3x76x76, .f32⟩
  | .hbm, ⟨76, _⟩ => ⟨S64x3x76x76, .f32⟩
  | .hbm, ⟨77, _⟩ => ⟨S64x3x76x76, .f32⟩
  | .hbm, ⟨78, _⟩ => ⟨S64x3x76x76, .f32⟩
  | .hbm, ⟨79, _⟩ => ⟨S64x3x76x76, .f32⟩
  | .hbm, ⟨80, _⟩ => ⟨S64x3x76x76x1, .f32⟩
  | .hbm, ⟨81, _⟩ => ⟨S64x3x76x76x1, .f32⟩
  | .hbm, ⟨82, _⟩ => ⟨S64x3x76x76x1, .f32⟩
  | .hbm, ⟨83, _⟩ => ⟨S64x3x76x76x1, .f32⟩
  | .hbm, ⟨84, _⟩ => ⟨S64x3x76x76x1, .f32⟩
  | .hbm, ⟨85, _⟩ => ⟨S64x3x76x76x1, .f32⟩
  | .hbm, ⟨86, _⟩ => ⟨S64x3x76x76x6, .f32⟩
  | .hbm, ⟨87, _⟩ => ⟨S64x3x76x76x4, .f32⟩
  | .hbm, ⟨88, _⟩ => ⟨S64x17328x4, .f32⟩
  | .hbm, ⟨89, _⟩ => ⟨S_, .f32⟩
  | .hbm, ⟨90, _⟩ => ⟨S64x17328x4, .f32⟩
  | .hbm, ⟨91, _⟩ => ⟨S64x17328x4, .f32⟩
  | .hbm, ⟨92, _⟩ => ⟨S64x3x76x76x2, .f32⟩
  | .hbm, ⟨93, _⟩ => ⟨S64x17328x2, .f32⟩
  | .hbm, ⟨94, _⟩ => ⟨S64x17328x1, .f32⟩
  | .hbm, ⟨95, _⟩ => ⟨S64x17328x3, .f32⟩
  | .hbm, ⟨96, _⟩ => ⟨S64x17328x10, .f32⟩
  | _, _ => ⟨S64x30x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_4 : Ref sig .tc := ⟨.hbm, 36, rfl⟩
abbrev main_v30 : Ref sig .tc := ⟨.hbm, 37, rfl⟩
abbrev main_v31 : Ref sig .tc := ⟨.hbm, 38, rfl⟩
abbrev main_cst_5 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_6 : Ref sig .tc := ⟨.hbm, 45, rfl⟩
abbrev main_v37 : Ref sig .tc := ⟨.hbm, 46, rfl⟩
abbrev main_v38 : Ref sig .tc := ⟨.hbm, 47, rfl⟩
abbrev main_cst_7 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_8 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩

abbrev nD : Nat := 1
abbrev τ : Topo := Topo.v7x

variable {F : FTy → Type} [FloatOps F]
-- ==== Proof.Program.lean ====
/-
The kernel's body as a list of the few things a tile does.

A tile handles twenty tasks, one for a channel `c` (ten) and a half `jb` of the batch (two). For a task it copies
three slices of the input into its tile memory, recodes their 228 rows of 76 numbers into a line of 17328, and copies
that line out. The file names each of these doings once, and states that
the printed body is the run of the list of them in the order the program has.
-/
module

public import proofs.«01_k».proof.Proof.Gen.KernelIdeal.Skeleton

@[expose] public section

noncomputable section

namespace Cert.KernelIdeal.Decode

open Idealize.ShloMosaic Idealize.SL.Sem Cert.KernelIdeal.Gen

variable {F : FTy → Type} [FloatOps F]

/-- The operations of the vector subcore at the grid's coordinates. -/
abbrev Eff (F : FTy → Type) (i : grid0.Coords) : Type → Type :=
  TpuEff nD τ sig (Elt F) Λ₀ (.scVector ((i 0).castLE hcore0) ((i 1).castLE hsub0))

/-! ## The arrays -/

/-- The padded input, as a tile names it. -/
abbrev xV : Memref sig .scVector .hbm S30x76x64x128 .f32 := Memref.whole main_v1_scv
/-- The kernel's result. -/
abbrev outV : Memref sig .scVector .hbm S10x64x17328 .f32 := Memref.whole main_v2_scv
/-- The tile's two input buffers, one for each half of the batch. -/
abbrev inV : Memref sig .scVector .vmem S2x228x76 .f32 := Memref.whole cc0_scratch0
/-- The tile's output buffer of a half. -/
def ovM : Fin 2 → Memref sig .scVector .vmem S17328 .f32
  | 0 => Memref.whole cc0_scratch1
  | 1 => Memref.whole cc0_scratch2

theorem ovM_whole : ∀ jb, (ovM jb).IsWhole
  | 0 => Memref.isWhole_whole _
  | 1 => Memref.isWhole_whole _

/-- The semaphore of a half's copies in. -/
def siS : Fin 2 → DmaSems sig S_
  | 0 => cc0_scratch3
  | 1 => cc0_scratch4
/-- The semaphore of a half's copy out. -/
def soS : Fin 2 → DmaSems sig S_
  | 0 => cc0_scratch5
  | 1 => cc0_scratch6

/-- The word the program adds to a tile's number for a half. -/
def jbW : Fin 2 → BitVec 32
  | 0 => 0#32
  | 1 => 32#32

/-! ## The program's offsets -/

/-- The tile's number, as the program's words compute it. -/
def tileW (i : grid0.Coords) : BitVec 32 :=
  Scalar.addi (Scalar.muli (BitVec.ofNat 32 (i 1).val) 2#32) (BitVec.ofNat 32 (i 0).val)

/-- Where the input slice of channel `c`, half `jb` and anchor `a` starts. -/
def srcOff (i : grid0.Coords) (c : Fin 10) (jb : Fin 2) (a : Fin 3) : Fin 4 → ℕ :=
  ![a.val * 10 + c.val, 0, (Scalar.addi (tileW i) (jbW jb)).toNat, 0]

/-- Where the output slice of channel `c` and half `jb` starts. -/
def outOff (i : grid0.Coords) (c : Fin 10) (jb : Fin 2) : Fin 3 → ℕ :=
  ![c.val, (Scalar.addi (tileW i) (jbW jb)).toNat, 0]

/-- A trip's number, as the program's words compute it. -/
def tripW (t : Fin 228) : BitVec 32 :=
  Scalar.addi 0#32 (Scalar.muli (Scf.iv 0#32 1#32 t) 1#32)

/-- The first column of a trip's `j`-th sixteen numbers: the last sixteen overlap the ones before. -/
def col0 : Fin 5 → ℕ
  | 0 => 0
  | 1 => 16
  | 2 => 32
  | 3 => 48
  | 4 => 60
/-- The same as the program's word. -/
def colW : Fin 5 → BitVec 32
  | 0 => 0#32
  | 1 => 16#32
  | 2 => 32#32
  | 3 => 48#32
  | 4 => 60#32

/-- Where trip `t` of a task's loop reads its `j`-th sixteen numbers. -/
def ldOff (jb : Fin 2) (t : Fin 228) (j : Fin 5) : Fin 3 → ℕ :=
  ![jb.val, (Scalar.indexCast (tripW t)).toNat, col0 j]

/-- Where trip `t` writes them. -/
def stOff (t : Fin 228) (j : Fin 5) : Fin 1 → ℕ :=
  ![(Scalar.indexCast (Scalar.addi (Scalar.muli (tripW t) 76#32) (colW j))).toNat]

theorem tileW_eq : ∀ (i : grid0.Coords) (jb : Fin 2),
    (Scalar.addi (tileW i) (jbW jb)).toNat = 2 * (i 1).val + (i 0).val + 32 * jb.val := by decide +kernel
theorem tripW_eq : ∀ t : Fin 228, (Scalar.indexCast (tripW t)).toNat = t.val := by decide +kernel
theorem stW_eq : ∀ (t : Fin 228) (j : Fin 5),
    (Scalar.indexCast (Scalar.addi (Scalar.muli (tripW t) 76#32) (colW j))).toNat = t.val * 76 + col0 j := by
  decide +kernel

theorem srcOff_eq (i : grid0.Coords) (c : Fin 10) (jb : Fin 2) (a : Fin 3) :
    srcOff i c jb a = ![a.val * 10 + c.val, 0, 2 * (i 1).val + (i 0).val + 32 * jb.val, 0] := by
  unfold srcOff; rw [tileW_eq]
theorem outOff_eq (i : grid0.Coords) (c : Fin 10) (jb : Fin 2) :
    outOff i c jb = ![c.val, 2 * (i 1).val + (i 0).val + 32 * jb.val, 0] := by
  unfold outOff; rw [tileW_eq]
theorem ldOff_eq (jb : Fin 2) (t : Fin 228) (j : Fin 5) : ldOff jb t j = ![jb.val, t.val, col0 j] := by
  unfold ldOff; rw [tripW_eq]
theorem stOff_eq (t : Fin 228) (j : Fin 5) : stOff t j = ![t.val * 76 + col0 j] := by
  unfold stOff; rw [stW_eq]

theorem col0_le : ∀ j, col0 j + 16 ≤ 76 := by decide

theorem lane_lt (i : grid0.Coords) (jb : Fin 2) : 2 * (i 1).val + (i 0).val + 32 * jb.val < 64 := by
  have h0 : (i 0).val < 2 := (i 0).isLt
  have h1 : (i 1).val < 16 := (i 1).isLt
  have h2 := jb.isLt
  omega

theorem srcOff_inb (i : grid0.Coords) (c : Fin 10) (jb : Fin 2) (a : Fin 3) :
    ∀ x, srcOff i c jb a x + S1x76x1x76.size x ≤ S30x76x64x128.size x := by
  rw [srcOff_eq]
  have h := lane_lt i jb
  have hc := c.isLt
  have ha := a.isLt
  intro x
  fin_cases x <;> simp [Shape.size] <;> omega
theorem outOff_inb (i : grid0.Coords) (c : Fin 10) (jb : Fin 2) :
    ∀ x, outOff i c jb x + S1x1x17328.size x ≤ S10x64x17328.size x := by
  rw [outOff_eq]
  have h := lane_lt i jb
  have hc := c.isLt
  intro x
  fin_cases x <;> simp [Shape.size] <;> omega
theorem ldOff_inb (jb : Fin 2) (t : Fin 228) (j : Fin 5) :
    ∀ x, ldOff jb t j x + S1x1x16.size x ≤ S2x228x76.size x := by
  rw [ldOff_eq]
  have h := jb.isLt
  have ht := t.isLt
  have hj := col0_le j
  intro x
  fin_cases x <;> simp [Shape.size] <;> omega
theorem stOff_inb (t : Fin 228) (j : Fin 5) : ∀ x, stOff t j x + S16.size x ≤ S17328.size x := by
  rw [stOff_eq]
  have ht := t.isLt
  have hj := col0_le j
  intro x
  fin_cases x; simp [Shape.size]; omega
theorem dstOff_inb (p : Fin 2) (a : Fin 3) :
    ∀ x, (![p.val, 76 * a.val, 0] : Fin 3 → ℕ) x + S1x76x76.size x ≤ S2x228x76.size x := by
  have h := p.isLt
  have ha := a.isLt
  intro x
  fin_cases x <;> simp [Shape.size] <;> omega

/-! ## The views copied between -/

/-- The input slice of channel `c`, half `jb`, anchor `a`. -/
def srcM (i : grid0.Coords) (c : Fin 10) (jb : Fin 2) (a : Fin 3) : Memref sig .scVector .hbm S76x76 .f32 :=
  (xV.slice (Rect.unit (s := S30x76x64x128) (srcOff i c jb a) S1x76x1x76.size (srcOff_inb i c jb a))
    (fun _ => rfl)).squeeze S76x76 squeezes_S1x76x1x76_S76x76
/-- The third of the half's input buffer that anchor `a`'s slice lands in. -/
def dstM (jb : Fin 2) (a : Fin 3) : Memref sig .scVector .vmem S76x76 .f32 :=
  (inV.slice (Rect.unit (s := S2x228x76) ![jb.val, 76 * a.val, 0] S1x76x76.size (dstOff_inb jb a))
    (fun _ => rfl)).squeeze S76x76 squeezes_S1x76x76_S76x76
/-- The output slice of channel `c`, half `jb`. -/
def outM (i : grid0.Coords) (c : Fin 10) (jb : Fin 2) : Memref sig .scVector .hbm S17328 .f32 :=
  (outV.slice (Rect.unit (s := S10x64x17328) (outOff i c jb) S1x1x17328.size (outOff_inb i c jb))
    (fun _ => rfl)).squeeze S17328 squeezes_S1x1x17328_S17328

/-! ## What a trip computes of sixteen numbers -/

/-- The logistic of sixteen numbers, as the program writes it. -/
def sigV (w : FVec F S16 .f32) : FVec F S16 .f32 :=
  divf (broadcast S16 (Scalar.ofBits .f32 0x3F800000#32))
    (addf (broadcast S16 (Scalar.ofBits .f32 0x3F800000#32))
      (exp (subf (broadcast S16 (Scalar.ofBits .f32 0x00000000#32)) w)))

/-- The first column as a float. -/
def colB : Fin 5 → BitVec 32
  | 0 => 0x00000000#32
  | 1 => 0x41800000#32
  | 2 => 0x42000000#32
  | 3 => 0x42400000#32
  | 4 => 0x42700000#32

/-- The grid's row of a trip, times eight. -/
def gy8 (t : Fin 228) : F .f32 :=
  Scalar.mulf (Scalar.sitofp .f32 (Scalar.subi (tripW t)
    (Scalar.muli (Scalar.addi (Scalar.extui (Scalar.cmpi .sge (tripW t) 76#32))
      (Scalar.extui (Scalar.cmpi .sge (tripW t) 152#32))) 76#32))) (Scalar.ofBits .f32 0x41000000#32)

/-- The anchor of a trip. -/
def anc (t : Fin 228) : F .f32 :=
  Scalar.select (Scalar.cmpi .slt (tripW t) 76#32) (Scalar.ofBits .f32 0x41380000#32)
    (Scalar.select (Scalar.cmpi .slt (tripW t) 152#32) (Scalar.ofBits .f32 0x41B73333#32)
      (Scalar.ofBits .f32 0x42373333#32))

/-- What channel `c` makes of sixteen numbers, before the shape is stated again. -/
def decV (c : Fin 10) (t : Fin 228) (j : Fin 5) (w : FVec F S16 .f32) : FVec F S16 .f32 :=
  match c with
  | 0 => addf (mulf (sigV w) (broadcast S16 (Scalar.ofBits .f32 0x41000000#32)))
      (mulf (addf k0_pay106 (broadcast S16 (Scalar.ofBits .f32 (colB j))))
        (broadcast S16 (Scalar.ofBits .f32 0x41000000#32)))
  | 1 => addf (mulf (sigV w) (broadcast S16 (Scalar.ofBits .f32 0x41000000#32))) (broadcast S16 (gy8 t))
  | 2 => mulf (exp w) (broadcast S16 (anc t))
  | 3 => mulf (exp w) (broadcast S16 (anc t))
  | 4 => w
  | 5 => w
  | 6 => sigV w
  | 7 => sigV w
  | 8 => sigV w
  | 9 => sigV w

/-- What a trip stores of the sixteen numbers it read. -/
def payV (c : Fin 10) (t : Fin 228) (j : Fin 5) (v : Vec F S1x1x16 .f32) : FVec F S16 .f32 :=
  shapeCast S16 (decV c t j (shapeCast S16 v shapeCasts_S1x1x16_S16)) shapeCasts_S16_S16

/-- One sixteen of a trip: read it, recode it, store it. -/
def chunk (i : grid0.Coords) (c : Fin 10) (jb : Fin 2) (t : Fin 228) (j : Fin 5) : Prog (Eff F i) PUnit := do
  let v ← Prog.lift (.load inV (Rect.unit (s := S2x228x76) (ldOff jb t j) S1x1x16.size (ldOff_inb jb t j)).toLoadRect
    (View.loadsAt_vmem h_S1x1x16))
  let _ ← Prog.lift (.load (ovM jb) (Rect.unit (s := S17328) (stOff t j) S16.size (stOff_inb t j)).toLoadRect
    (View.loadsAt_vmem h_S16))
  Prog.lift (.store (ovM jb) (Rect.unit (s := S17328) (stOff t j) S16.size (stOff_inb t j)) (payV c t j v) Finset.univ
    (View.stores_vmem_bits_univ h_S16 rfl) (.inl rfl))

/-- One trip: a row of 76 numbers. -/
def trip (i : grid0.Coords) (c : Fin 10) (jb : Fin 2) (t : Fin 228) : Prog (Eff F i) PUnit := do
  chunk i c jb t 0
  chunk i c jb t 1
  chunk i c jb t 2
  chunk i c jb t 3
  chunk i c jb t 4

/-! ## The list of doings -/

/-- What a tile does, one thing at a time. -/
inductive Ins
  /-- Start the copy in of a slice. -/
  | fire (c : Fin 10) (jb : Fin 2) (a : Fin 3)
  /-- Wait for a copy in. -/
  | wait (c : Fin 10) (jb : Fin 2) (a : Fin 3)
  /-- Start a task's copy out. -/
  | ofire (c : Fin 10) (jb : Fin 2)
  /-- Wait for a copy out. -/
  | owait (c : Fin 10) (jb : Fin 2)
  /-- Recode a task's rows. -/
  | loop (c : Fin 10) (jb : Fin 2)

/-- The operation a doing is. -/
def Ins.prog (i : grid0.Coords) : Ins → Prog (Eff F i) PUnit
  | .fire c jb a => Prog.lift (.enqueueDma (srcM i c jb a) (.here (dstM jb a)) (.dma (siS jb).sem)
      ((View.wordExact_bits rfl).reshape _ _) ((View.wordExact_bits rfl).reshape _ _) ⟨Or.inl rfl, trivial⟩)
  | .wait c jb a => Prog.lift (.waitDma2 (siS jb).sem (srcM i c jb a) (dstM jb a)
      ((View.wordExact_bits rfl).reshape _ _) ((View.wordExact_bits rfl).reshape _ _))
  | .ofire c jb => Prog.lift (.enqueueDma (ovM jb) (.here (outM i c jb)) (.dma (soS jb).sem)
      (ovM_whole jb).wordExact ((View.wordExact_bits rfl).reshape _ _) ⟨Or.inl rfl, trivial⟩)
  | .owait c jb => Prog.lift (.waitDma2 (soS jb).sem (ovM jb) (outM i c jb)
      (ovM_whole jb).wordExact ((View.wordExact_bits rfl).reshape _ _))
  | .loop c jb => Scf.Loop.for k0_t1_loop k0_t1_ok ⟨⟩ fun t _ => trip i c jb t

/-- The run of a list of doings. -/
def run (i : grid0.Coords) : List Ins → Prog (Eff F i) PUnit
  | [] => pure ⟨⟩
  | a :: l => a.prog i >>= fun _ => run i l

/-- A task's three copies in. -/
def fires (c : Fin 10) (jb : Fin 2) : List Ins := [.fire c jb 0, .fire c jb 1, .fire c jb 2]
/-- The waits for them. -/
def waits (c : Fin 10) (jb : Fin 2) : List Ins := [.wait c jb 0, .wait c jb 1, .wait c jb 2]
/-- The copies in of the task after, if there is one. -/
def next (c : Fin 10) (jb : Fin 2) : List Ins :=
  if jb.val = 0 then fires c 1 else if h : c.val + 1 < 10 then fires ⟨c.val + 1, h⟩ 0 else []
/-- The wait for the half's copy out before, if there is one. -/
def before (c : Fin 10) (jb : Fin 2) : List Ins :=
  if c.val = 0 then [] else [.owait ⟨c.val - 1, by omega⟩ jb]
/-- A task. -/
def task (c : Fin 10) (jb : Fin 2) : List Ins :=
  waits c jb ++ (next c jb ++ (before c jb ++ [.loop c jb, .ofire c jb]))
/-- The tasks of the first `n` channels' last. -/
def tasks : (n : ℕ) → (c : ℕ) → (h : c + n = 10) → List Ins
  | 0, _, _ => [.owait 9 0, .owait 9 1]
  | n + 1, c, h => task ⟨c, by omega⟩ 0 ++ (task ⟨c, by omega⟩ 1 ++ tasks n (c + 1) (by omega))

/-- One list after another runs one after another. -/
theorem run_append (i : grid0.Coords) (l k : List Ins) :
    run (F := F) i (l ++ k) = run i l >>= fun _ => run i k := by
  induction l with
  | nil => rfl
  | cons a l ih => simp only [List.cons_append, run, ih, bind_assoc]

end Cert.KernelIdeal.Decode
-- ==== Proof.Values.lean ====
/-
What a trip's sixteen numbers are, one at a time.

The program recodes a row of 76 numbers in five sixteens, the last overlapping the one before; the file says what the
number at one column becomes (`decS`), what the whole line of 17328 becomes (`lineOf`), and that a sixteen, written,
moves the part of the line that is right up to where the next sixteen starts.
-/
module

public import proofs.«01_k».proof.Proof.Program
public import Idealize.ShloMosaic.Lib.Pointwise.Index
public import Idealize.ShloMosaic.Lib.Pipeline.Value
public import Idealize.ShloMosaic.Lib.Pipeline.ValueKit.Geometry

@[expose] public section

noncomputable section

namespace Cert.KernelIdeal.Decode

open Idealize.ShloMosaic Idealize.SL.Sem Cert.KernelIdeal.Gen

variable {F : FTy → Type} [FloatOps F]

/-- The sixteen that writes a column last. -/
def jOf (col : ℕ) : Fin 5 := if h : col < 60 then ⟨col / 16, by omega⟩ else 4
/-- The column's place in it. -/
def laneOf (col : ℕ) : Fin 16 := if col < 60 then ⟨col % 16, by omega⟩ else ⟨(col - 60) % 16, by omega⟩

/-- What channel `c` makes of the number `v` at row `t` and column `col`. -/
def decS (c : Fin 10) (t : Fin 228) (col : Fin 76) (v : F .f32) : F .f32 :=
  decV c t (jOf col.val) (broadcast S16 v) (ix1 (laneOf col.val))

/-- The row of a place in the line. -/
def rowOf (x : S17328.Idx) : Fin 228 := ⟨(x 0).val / 76, by have h : (x 0).val < 17328 := (x 0).isLt; omega⟩
/-- The column of a place in the line. -/
def colOf (x : S17328.Idx) : Fin 76 := ⟨(x 0).val % 76, Nat.mod_lt _ (by omega)⟩

/-- The line a task makes of its input buffer. -/
def lineOf (c : Fin 10) (jb : Fin 2) (fin : S2x228x76.Idx → F .f32) (x : S17328.Idx) : F .f32 :=
  decS c (rowOf x) (colOf x) (fin (ix3 jb (rowOf x) (colOf x)))

/-- Where the next sixteen starts. -/
def nxt : Fin 5 → ℕ
  | 0 => 16
  | 1 => 32
  | 2 => 48
  | 3 => 60
  | 4 => 76

theorem jOf_col0 : ∀ (j : Fin 5) (l : Fin 16), col0 j + l.val < nxt j →
    jOf (col0 j + l.val) = j ∧ laneOf (col0 j + l.val) = l := by decide
theorem nxt_le : ∀ j, nxt j ≤ col0 j + 16 := by decide
theorem nxt_le76 : ∀ j, nxt j ≤ 76 := by decide

/-- Each number's recoding reads that number only. -/
theorem decV_apply (c : Fin 10) (t : Fin 228) (j : Fin 5) (w : FVec F S16 .f32) (l : S16.Idx) :
    decV c t j w l = decV c t j (broadcast S16 (w l)) l := by
  fin_cases c <;> rfl

theorem payV_apply (c : Fin 10) (t : Fin 228) (j : Fin 5) (v : Vec F S1x1x16 .f32) (l : Fin 16) :
    payV c t j v (ix1 l) = decV c t j (broadcast S16 (v (ix3 0 0 l))) (ix1 l) := by
  unfold payV
  rw [shapeCast_self, decV_apply]
  congr 2
  refine shapeCast_apply _ _ _ _ ?_
  rw [Shape.rowMajor_val_three, Shape.rowMajor_val_one]
  simp

/-- The sixteen read from the input buffer. -/
theorem ld_apply (jb : Fin 2) (t : Fin 228) (j : Fin 5) (fin : S2x228x76.Idx → F .f32) (l : Fin 16) :
    inV.view.readAt (Elt F) (Rect.unit (s := S2x228x76) (ldOff jb t j) S1x1x16.size (ldOff_inb jb t j)).toLoadRect fin
      (ix3 0 0 l) = fin (ix3 jb t ⟨col0 j + l.val, by have := col0_le j; omega⟩) := by
  rw [View.readAt_rect, View.read_apply]
  refine (cast_eq _ _).trans (congrArg fin ?_)
  funext a
  refine Fin.ext ((ValueKit.view_emb_slice_whole_unit_val cc0_scratch0 _ _ _ _ a).trans ?_)
  refine (congrArg (· + _) (congrFun (ldOff_eq jb t j) a)).trans ?_
  fin_cases a <;> rfl

/-- What a sixteen stores is the line, up to where the next starts. -/
theorem pay_eq (c : Fin 10) (jb : Fin 2) (t : Fin 228) (j : Fin 5) (fin : S2x228x76.Idx → F .f32) (l : Fin 16)
    (hl : col0 j + l.val < nxt j) (x : S17328.Idx) (hx : (x 0).val = t.val * 76 + col0 j + l.val) :
    payV c t j (inV.view.readAt (Elt F)
        (Rect.unit (s := S2x228x76) (ldOff jb t j) S1x1x16.size (ldOff_inb jb t j)).toLoadRect fin) (ix1 l)
      = lineOf c jb fin x := by
  rw [payV_apply]
  have hn := nxt_le76 j
  have hr : rowOf x = t := Fin.ext (by unfold rowOf; show (x 0).val / 76 = t.val; omega)
  have hc : (colOf x).val = col0 j + l.val := by unfold colOf; show (x 0).val % 76 = _; omega
  unfold lineOf decS
  obtain ⟨h1, h2⟩ := jOf_col0 j l hl
  rw [hr, hc, h1, h2, ld_apply]
  congr 4
  exact Fin.ext hc.symm

/-- A sixteen written: the line is right up to where the next sixteen starts. -/
theorem chunk_write (c : Fin 10) (jb : Fin 2) (t : Fin 228) (j : Fin 5) (fin : S2x228x76.Idx → F .f32)
    (f : (ovM jb).view.ty.Contents (Elt F))
    (hf : ∀ x : S17328.Idx, (x 0).val < t.val * 76 + col0 j → (ovM jb).view.read (Elt F) f x = lineOf c jb fin x) :
    ∀ x : S17328.Idx, (x 0).val < t.val * 76 + nxt j →
      (ovM jb).view.read (Elt F)
        (((ovM jb).access (Rect.unit (s := S17328) (stOff t j) S16.size (stOff_inb t j))).write (Elt F) f
          (payV c t j (inV.view.readAt (Elt F)
            (Rect.unit (s := S2x228x76) (ldOff jb t j) S1x1x16.size (ldOff_inb jb t j)).toLoadRect fin)) Finset.univ) x
        = lineOf c jb fin x := by
  intro x hx
  have hn := nxt_le j
  have he : ∀ l : S16.Idx, (((Rect.unit (s := S17328) (stOff t j) S16.size (stOff_inb t j)).emb l) 0).val
      = t.val * 76 + col0 j + (l 0).val := by
    intro l
    refine (ValueKit.rect_emb_unit_val (s := S17328) _ _ _ l 0).trans ?_
    exact congrArg (· + _) (congrFun (stOff_eq t j) 0)
  by_cases h : (x 0).val < t.val * 76 + col0 j
  · refine (View.read_slice_write_of_not_mem _ _ _ _ ?_).trans (hf x h)
    intro hm
    obtain ⟨l, -, e⟩ := Finset.mem_map.mp hm
    have := he l
    rw [e] at this
    omega
  · let l : Fin 16 := ⟨(x 0).val - (t.val * 76 + col0 j), by omega⟩
    have hl : l.val = (x 0).val - (t.val * 76 + col0 j) := rfl
    have e : (Rect.unit (s := S17328) (stOff t j) S16.size (stOff_inb t j)).emb (ix1 l) = x := by
      funext a
      fin_cases a
      refine Fin.ext ((he (ix1 l)).trans ?_)
      show _ + l.val = (x 0).val
      omega
    have h2 := View.read_slice_write_emb (v := (ovM jb).view) (Val := Elt F)
      (Rect.unit (s := S17328) (stOff t j) S16.size (stOff_inb t j)) f
      (payV c t j (inV.view.readAt (Elt F)
            (Rect.unit (s := S2x228x76) (ldOff jb t j) S1x1x16.size (ldOff_inb jb t j)).toLoadRect fin))
      (M := Finset.univ) (x := ix1 l) (Finset.mem_univ _)
    rw [e] at h2
    refine h2.trans (pay_eq c jb t j fin l (by omega) x (by omega))

end Cert.KernelIdeal.Decode
-- ==== Proof.Setup.lean ====
/-
The program as the launch theorem sees it, and the assertions the proof is written in.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Decode

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile and its buffers -/

abbrev cV (L : grid0.Coords) : Fin τ.nSC := (L 0).castLE hcore0
abbrev jV (L : grid0.Coords) : Fin τ.nSub := (L 1).castLE hsub0
/-- The tile at the grid's coordinates. -/
abbrev thr (d : Dev nD) (L : grid0.Coords) : Thread nD τ := V d (cV L) (jV L)

/-- The half of the input buffer a task of half `jb` reads. -/
def inHalf (jb : Fin 2) : Finset S2x228x76.Idx := Finset.univ.filter fun x => (x 0).val = jb.val

variable (d : Dev nD) (L : grid0.Coords)

/-- A half of the input buffer, held at some contents. -/
abbrev inPts (jb : Fin 2) (f : S2x228x76.Idx → F .f32) : sProp 𝕄 :=
  (inV).view.loc (thr d L) ↦[inHalf jb]{fullShare} f
/-- A half's output buffer, held at some contents. -/
abbrev ovPts (jb : Fin 2) (f : (ovM jb).view.ty.Contents (Elt F)) : sProp 𝕄 :=
  (ovM jb).view.loc (thr d L) ↦{fullShare} f

end Cert.KernelIdeal.Decode
-- ==== Proof.Loop.lean ====
/-
A task's loop: from its half of the input buffer, the half's output buffer comes to hold the line.
-/
module

public import proofs.«01_k».proof.Proof.Setup

@[expose] public section

noncomputable section

namespace Cert.KernelIdeal.Decode

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The output buffer is right below place `n`, and the input half is as it was. -/
def rightTo (c : Fin 10) (jb : Fin 2) (fin : S2x228x76.Idx → F .f32) (n : ℕ) : sProp 𝕄 :=
  iprop(inPts d L jb fin ∗ ∃ f, ⌜∀ x : S17328.Idx, (x 0).val < n → (ovM jb).view.read (Elt F) f x = lineOf c jb fin x⌝
    ∗ ovPts d L jb f)

theorem ld_sub (jb : Fin 2) (t : Fin 228) (j : Fin 5) :
    (inV).view.setOn (Rect.unit (s := S2x228x76) (ldOff jb t j) S1x1x16.size (ldOff_inb jb t j)).toLoadRect.set ⊆ inHalf jb := by
  intro x hx
  obtain ⟨y, hy, rfl⟩ := Finset.mem_map.mp hx
  have h := (Rect.mem_set_unit (inb := ldOff_inb jb t j)).mp hy 0
  refine Finset.mem_filter.mpr ⟨Finset.mem_univ _, ?_⟩
  have h0 : ldOff jb t j 0 = jb.val := congrFun (ldOff_eq jb t j) 0
  rw [h0] at h
  show (y 0).val = jb.val
  have h1 : S1x1x16.size 0 = 1 := rfl
  omega

theorem wp_chunk (c : Fin 10) (jb : Fin 2) (t : Fin 228) (j : Fin 5) (fin : S2x228x76.Idx → F .f32) :
    rightTo d L c jb fin (t.val * 76 + col0 j)
      ⊢ wp frame (wpE (defs₀ (F := F)) 𝒱₀ (thr d L) none) Set.univ (chunk L c jb t j)
          fun _ => rightTo d L c jb fin (t.val * 76 + nxt j) := by
  unfold rightTo chunk
  iintro ⟨Hi, %f, %hf, Ho⟩
  iapply (wp_load 𝒱₀ (thr d L) none Set.univ (m := inV) (ld_sub jb t j)) $$ [Hi]
  · iexact Hi
  iintro Hi
  iapply (wp_load 𝒱₀ (thr d L) none Set.univ (m := ovM jb) (S := Finset.univ) (Finset.subset_univ _)) $$ [Ho]
  · iexact Ho
  iintro Ho
  iapply (wp_store 𝒱₀ (thr d L) none Set.univ (m := ovM jb) (S := Finset.univ) (Finset.subset_univ _)) $$ [Ho]
  · iexact Ho
  iintro Ho
  rw [wp_ret]
  imodintro
  isplitl [Hi]; · iexact Hi
  iexists _
  isplitr
  swap; · iexact Ho
  ipureintro
  exact chunk_write c jb t j fin f hf

theorem wp_trip (c : Fin 10) (jb : Fin 2) (t : Fin 228) (fin : S2x228x76.Idx → F .f32) :
    rightTo d L c jb fin (t.val * 76)
      ⊢ wp frame (wpE (defs₀ (F := F)) 𝒱₀ (thr d L) none) Set.univ (trip L c jb t)
          fun _ => rightTo d L c jb fin ((t.val + 1) * 76) := by
  unfold trip
  rw [wp_bind]
  refine (wp_chunk d L c jb t 0 fin).trans (wp_mono frame _ _ fun _ => ?_)
  rw [wp_bind]
  refine (wp_chunk d L c jb t 1 fin).trans (wp_mono frame _ _ fun _ => ?_)
  rw [wp_bind]
  refine (wp_chunk d L c jb t 2 fin).trans (wp_mono frame _ _ fun _ => ?_)
  rw [wp_bind]
  refine (wp_chunk d L c jb t 3 fin).trans (wp_mono frame _ _ fun _ => ?_)
  refine (wp_chunk d L c jb t 4 fin).trans (wp_mono frame _ _ fun _ => ?_)
  rw [show (t.val + 1) * 76 = t.val * 76 + nxt 4 from by show _ = _ + 76; omega]

/-- The loop: the output buffer comes to hold the line. -/
theorem wp_loop (c : Fin 10) (jb : Fin 2) (fin : S2x228x76.Idx → F .f32) :
    iprop(inPts d L jb fin ∗ ∃ f, ovPts d L jb f)
      ⊢ wp frame (wpE (defs₀ (F := F)) 𝒱₀ (thr d L) none) Set.univ (Ins.prog L (.loop c jb))
          fun _ => iprop(inPts d L jb fin ∗ ∃ f, ⌜(ovM jb).view.read (Elt F) f = lineOf c jb fin⌝ ∗ ovPts d L jb f) := by
  unfold Ins.prog
  iintro ⟨Hi, %f, Ho⟩
  iapply (Scf.wp_for frame (wpE (defs₀ (F := F)) 𝒱₀ (thr d L) none) Set.univ k0_t1_loop.lb k0_t1_loop.ub k0_t1_loop.st
    k0_t1_ok PUnit.unit (fun t _ => trip L c jb t) (fun k _ => rightTo d L c jb fin (k * 76)) (fun k _ => wp_trip d L c jb k fin))
  isplitl [Hi Ho]
  · unfold rightTo
    isplitl [Hi]; · iexact Hi
    iexists f
    isplitr
    · ipureintro; intro x hx; omega
    · iexact Ho
  iintro %acc H
  unfold rightTo
  icases H with ⟨Hi, %g, %hg, Ho⟩
  isplitl [Hi]; · iexact Hi
  iexists g
  isplitr
  · ipureintro
    funext x
    refine hg x ?_
    have h : (x 0).val < 17328 := (x 0).isLt
    show _ < 228 * 76
    omega
  · iexact Ho

end Cert.KernelIdeal.Decode
-- ==== Proof.Views.lean ====
/-
Where the program's copies read and write: the places of the two arrays and of the input buffer, by coordinates, and
what the copies leave there.
-/
module

public import proofs.«01_k».proof.Proof.Values

@[expose] public section

noncomputable section

namespace Cert.KernelIdeal.Decode

open Idealize.ShloMosaic Idealize.SL.Sem Cert.KernelIdeal.Gen

variable {F : FTy → Type}

/-- The batch entry a tile's half works on. -/
def lane (L : grid0.Coords) (jb : Fin 2) : Fin 64 := ⟨2 * (L 1).val + (L 0).val + 32 * jb.val, lane_lt L jb⟩

/-- The place in the padded input that channel `c`'s number of row `t`, batch entry `b` and column `l` is at. -/
def srcIx (c : Fin 10) (t : Fin 228) (b : Fin 64) (l : Fin 76) : S30x76x64x128.Idx :=
  ix4 ⟨t.val / 76 * 10 + c.val, by omega⟩ ⟨t.val % 76, Nat.mod_lt _ (by omega)⟩ b ⟨l.val, by omega⟩

/-- What the input buffer holds once channel `c`'s copies have landed. -/
def landed (L : grid0.Coords) (c : Fin 10) (fx : S30x76x64x128.Idx → F .f32) (y : S2x228x76.Idx) : F .f32 :=
  fx (srcIx c (y 1) (lane L (y 0)) (y 2))

/-- The kernel's result. -/
def decArr [FloatOps F] (fx : S30x76x64x128.Idx → F .f32) (y : S10x64x17328.Idx) : F .f32 :=
  decS (y 0) (rowOf (ix1 (y 2))) (colOf (ix1 (y 2))) (fx (srcIx (y 0) (rowOf (ix1 (y 2))) (y 1) (colOf (ix1 (y 2)))))

/-! ## Places -/

theorem src_emb (L : grid0.Coords) (c : Fin 10) (jb : Fin 2) (a : Fin 3) (x : S76x76.Idx) :
    (srcM L c jb a).view.emb x = srcIx c ⟨76 * a.val + (x 0).val, by have h : (x 0).val < 76 := (x 0).isLt; omega⟩ (lane L jb) (x 1) := by
  have hx0 : (x 0).val < 76 := (x 0).isLt
  have e : Shape.reshapeEquiv squeezes_S1x76x1x76_S76x76.numel_eq x = (ix4 0 (x 0) 0 (x 1) : S1x76x1x76.Idx) := by
    refine Shape.reshapeEquiv_eq_of_rowMajor _ ?_
    rw [Shape.rowMajor_val_four, Shape.rowMajor_val_two]
    simp
  have h : ∀ w : Fin 4, ((srcM L c jb a).view.emb x w).val
      = srcOff L c jb a w + ((ix4 0 (x 0) 0 (x 1) : S1x76x1x76.Idx) w).val := fun w => by
    rw [← e]
    exact ValueKit.rect_emb_unit_val (s := S30x76x64x128) (srcOff L c jb a) S1x76x1x76.size (srcOff_inb L c jb a) _ w
  have h' := fun w => (h w).trans (congrArg (· + _) (congrFun (srcOff_eq L c jb a) w))
  funext w
  apply Fin.ext
  refine (h' w).trans ?_
  fin_cases w
  · show a.val * 10 + c.val + 0 = (76 * a.val + (x 0).val) / 76 * 10 + c.val
    omega
  · show 0 + (x 0).val = (76 * a.val + (x 0).val) % 76
    omega
  · rfl
  · show 0 + (x 1).val = (x 1).val
    omega

theorem dst_emb (jb : Fin 2) (a : Fin 3) (x : S76x76.Idx) :
    (dstM jb a).view.emb x = ix3 jb ⟨76 * a.val + (x 0).val, by have h : (x 0).val < 76 := (x 0).isLt; omega⟩ (x 1) := by
  have e : Shape.reshapeEquiv squeezes_S1x76x76_S76x76.numel_eq x = (ix3 0 (x 0) (x 1) : S1x76x76.Idx) := by
    refine Shape.reshapeEquiv_eq_of_rowMajor _ ?_
    rw [Shape.rowMajor_val_three, Shape.rowMajor_val_two]
    simp
  have h : ∀ w : Fin 3, ((dstM jb a).view.emb x w).val
      = (![jb.val, 76 * a.val, 0] : Fin 3 → ℕ) w + ((ix3 0 (x 0) (x 1) : S1x76x76.Idx) w).val := fun w => by
    rw [← e]
    exact ValueKit.rect_emb_unit_val (s := S2x228x76) ![jb.val, 76 * a.val, 0] S1x76x76.size (dstOff_inb jb a) _ w
  funext w
  apply Fin.ext
  refine (h w).trans ?_
  fin_cases w
  · rfl
  · rfl
  · show 0 + (x 1).val = (x 1).val
    omega

theorem out_emb (L : grid0.Coords) (c : Fin 10) (jb : Fin 2) (x : S17328.Idx) :
    (outM L c jb).view.emb x = ix3 c (lane L jb) (x 0) := by
  have e : Shape.reshapeEquiv squeezes_S1x1x17328_S17328.numel_eq x = (ix3 0 0 (x 0) : S1x1x17328.Idx) := by
    refine Shape.reshapeEquiv_eq_of_rowMajor _ ?_
    rw [Shape.rowMajor_val_three, Shape.rowMajor_val_one]
    simp
  have h : ∀ w : Fin 3, ((outM L c jb).view.emb x w).val
      = outOff L c jb w + ((ix3 0 0 (x 0) : S1x1x17328.Idx) w).val := fun w => by
    rw [← e]
    exact ValueKit.rect_emb_unit_val (s := S10x64x17328) (outOff L c jb) S1x1x17328.size (outOff_inb L c jb) _ w
  have h' := fun w => (h w).trans (congrArg (· + _) (congrFun (outOff_eq L c jb) w))
  funext w
  apply Fin.ext
  refine (h' w).trans ?_
  fin_cases w
  · rfl
  · rfl
  · show 0 + (x 0).val = (x 0).val
    omega

/-! ## The sets of places -/

/-- The places of an input slice, of a third of the input buffer's half, of a slice of the result. -/
def xSet (L : grid0.Coords) (c : Fin 10) (jb : Fin 2) (a : Fin 3) : Finset S30x76x64x128.Idx := (srcM L c jb a).view.set
def dSet (jb : Fin 2) (a : Fin 3) : Finset S2x228x76.Idx := (dstM jb a).view.set
def oSet (L : grid0.Coords) (c : Fin 10) (jb : Fin 2) : Finset S10x64x17328.Idx := (outM L c jb).view.set

theorem mem_src (L : grid0.Coords) (c : Fin 10) (jb : Fin 2) (a : Fin 3) (y : S30x76x64x128.Idx) :
    y ∈ xSet L c jb a → (y 0).val = a.val * 10 + c.val ∧ y 2 = lane L jb := by
  intro h
  obtain ⟨x, -, hx⟩ := Finset.mem_map.mp h
  rw [(hx.symm.trans (src_emb L c jb a x) : y = _)]
  have hx0 : (x 0).val < 76 := (x 0).isLt
  exact ⟨by show (76 * a.val + (x 0).val) / 76 * 10 + c.val = _; omega, rfl⟩

theorem mem_dst (jb : Fin 2) (a : Fin 3) (y : S2x228x76.Idx) :
    y ∈ dSet jb a ↔ (y 0).val = jb.val ∧ (y 1).val / 76 = a.val := by
  constructor
  · intro h
    obtain ⟨x, -, hx⟩ := Finset.mem_map.mp h
    rw [(hx.symm.trans (dst_emb jb a x) : y = _)]
    have hx0 : (x 0).val < 76 := (x 0).isLt
    exact ⟨rfl, by show (76 * a.val + (x 0).val) / 76 = a.val; omega⟩
  · rintro ⟨h0, h1⟩
    refine Finset.mem_map.mpr ⟨ix2 ⟨(y 1).val % 76, Nat.mod_lt _ (by omega)⟩ (y 2), Finset.mem_univ _,
      (dst_emb jb a _).trans ?_⟩
    funext w
    apply Fin.ext
    fin_cases w
    · exact h0.symm
    · show 76 * a.val + (y 1).val % 76 = (y 1).val
      omega
    · rfl

theorem mem_out (L : grid0.Coords) (c : Fin 10) (jb : Fin 2) (y : S10x64x17328.Idx) :
    y ∈ oSet L c jb ↔ y 0 = c ∧ y 1 = lane L jb := by
  constructor
  · intro h
    obtain ⟨x, -, hx⟩ := Finset.mem_map.mp h
    rw [(hx.symm.trans (out_emb L c jb x) : y = _)]
    exact ⟨rfl, rfl⟩
  · rintro ⟨h0, h1⟩
    refine Finset.mem_map.mpr ⟨ix1 (y 2), Finset.mem_univ _, (out_emb L c jb _).trans ?_⟩
    rw [← h0, ← h1]
    funext w
    fin_cases w <;> rfl

/-! ## What the copies leave -/

theorem dst_written (L : grid0.Coords) (c : Fin 10) (jb : Fin 2) (a : Fin 3) (fx : S30x76x64x128.Idx → F .f32)
    (f : S2x228x76.Idx → F .f32) : ∀ y ∈ dSet jb a,
      (dstM jb a).view.write (Elt F) f ((srcM L c jb a).view.read (Elt F) fx) Finset.univ y = landed L c fx y := by
  intro y h
  obtain ⟨x, -, hx⟩ := Finset.mem_map.mp h
  subst hx
  refine (View.write_emb_of_mem (v := (dstM jb a).view) (Val := Elt F) f _ (Finset.mem_univ x)).trans ?_
  show fx ((srcM L c jb a).view.emb x) = landed L c fx ((dstM jb a).view.emb x)
  exact (congrArg fx (src_emb L c jb a x)).trans (congrArg (landed L c fx) (dst_emb jb a x)).symm

theorem out_written [FloatOps F] (L : grid0.Coords) (c : Fin 10) (jb : Fin 2) (fx : S30x76x64x128.Idx → F .f32)
    (g : S17328.Idx → F .f32) (hg : g = lineOf c jb (landed L c fx)) (f : S10x64x17328.Idx → F .f32) :
    ∀ y ∈ oSet L c jb, (outM L c jb).view.write (Elt F) f g Finset.univ y = decArr fx y := by
  subst hg
  intro y h
  obtain ⟨x, -, hx⟩ := Finset.mem_map.mp h
  subst hx
  refine (View.write_emb_of_mem (v := (outM L c jb).view) (Val := Elt F) f _ (Finset.mem_univ x)).trans ?_
  have hx1 : (ix1 (x 0) : S17328.Idx) = x := by funext w; fin_cases w; rfl
  have e : decArr fx (ix3 c (lane L jb) (x 0)) = lineOf c jb (landed L c fx) x := by
    show decS c (rowOf (ix1 (x 0))) (colOf (ix1 (x 0))) _ = decS c (rowOf x) (colOf x) _
    rw [hx1]; rfl
  exact ((congrArg (decArr fx) (out_emb L c jb x)).trans e).symm

/-! ## The sets are apart -/

theorem dst_disjoint (jb : Fin 2) {a a' : Fin 3} (h : a ≠ a') : Disjoint (dSet jb a) (dSet jb a') := by
  refine Finset.disjoint_left.mpr fun y h₁ h₂ => h (Fin.ext ?_)
  exact ((mem_dst jb a y).mp h₁).2.symm.trans ((mem_dst jb a' y).mp h₂).2

end Cert.KernelIdeal.Decode
-- ==== Proof.Copies.lean ====
/-
The program's copies and waits, one at a time, and the three copies of a task together.
-/
module

public import proofs.«01_k».proof.Proof.Loop
public import proofs.«01_k».proof.Proof.Views

@[expose] public section

noncomputable section

namespace Cert.KernelIdeal.Decode

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-! ## What a tile holds -/

/-- A slice of the padded input. -/
abbrev xPc (fx : S30x76x64x128.Idx → F .f32) (c : Fin 10) (jb : Fin 2) (a : Fin 3) : sProp 𝕄 :=
  (xV).view.loc (thr d L) ↦[xSet L c jb a]{fullShare} fx
/-- The three slices of a task. -/
abbrev xPcs (fx : S30x76x64x128.Idx → F .f32) (c : Fin 10) (jb : Fin 2) : sProp 𝕄 :=
  iprop(xPc d L fx c jb 0 ∗ xPc d L fx c jb 1 ∗ xPc d L fx c jb 2)
/-- A task's slice of the result. -/
abbrev oPc (c : Fin 10) (jb : Fin 2) (f : S10x64x17328.Idx → F .f32) : sProp 𝕄 :=
  (outV).view.loc (thr d L) ↦[oSet L c jb]{fullShare} f
/-- A third of a half of the input buffer. -/
abbrev inThird (jb : Fin 2) (f : S2x228x76.Idx → F .f32) (a : Fin 3) : sProp 𝕄 :=
  (inV).view.loc (thr d L) ↦[dSet jb a]{fullShare} f

/-- A half's counter of copies in, and of copies out. -/
abbrev siCell (jb : Fin 2) : GSem nD τ sig := (thr d L, .dma (siS jb).sem)
abbrev soCell (jb : Fin 2) : GSem nD τ sig := (thr d L, .dma (soS jb).sem)

/-- What a copy in, and a copy out, adds to its counter. -/
def nIn : ℕ := (dstM 0 0).view.dmaCredit
def nOut : ℕ := (ovM 0).view.dmaCredit

theorem nIn_pos : 0 < nIn := by decide
theorem nOut_pos : 0 < nOut := by decide
theorem credit_in (jb : Fin 2) (a : Fin 3) : (dstM jb a).view.dmaCredit = nIn := rfl
theorem credit_out (L : grid0.Coords) (c : Fin 10) (jb : Fin 2) : (outM L c jb).view.dmaCredit = nOut := rfl
theorem amount_in (jb : Fin 2) (a : Fin 3) (s : DmaSem sig) : (dstM jb a).view.amount (.dma s) = nIn := rfl
theorem amount_out (L : grid0.Coords) (c : Fin 10) (jb : Fin 2) (s : DmaSem sig) : (outM L c jb).view.amount (.dma s) = nOut := rfl

/-- What a task's copies in deliver. -/
def dIn (fx : S30x76x64x128.Idx → F .f32) (c : Fin 10) (jb : Fin 2) (a : Fin 3) : sProp 𝕄 :=
  inThird d L jb (landed L c fx) a

instance (fx : S30x76x64x128.Idx → F .f32) (c : Fin 10) (jb : Fin 2) (a : Fin 3) :
    BI.Storable (upEmb : UEmb _ 𝕄) (dIn d L fx c jb a) :=
  (inferInstance : BI.Storable (upEmb : UEmb _ 𝕄) (inThird d L jb (landed L c fx) a))

/-- A task's copies in, under way: `k` begun, `u` of the counter waited for. -/
abbrev inB (fx : S30x76x64x128.Idx → F .f32) (c : Fin 10) (jb : Fin 2) (k u : ℕ) : sProp 𝕄 :=
  Transfers.Batch countersEmb (thr d L) (.dma (siS jb).sem) (default : HIx 1) nIn (dIn d L fx c jb) k u

/-- A task's copy out, under way. -/
abbrev outB (fx : S30x76x64x128.Idx → F .f32) (c : Fin 10) (jb : Fin 2) : sProp 𝕄 :=
  Transfers.Flight countersEmb (thr d L) (.dma (soS jb).sem) (default : HIx 1) nOut
    iprop(oPc d L c jb (decArr fx) ∗ ∃ f, ovPts d L jb f)

/-- The waits so far: those at the start, and the tile's own. -/
abbrev owes' (O : CellTallies nD τ sig (HIx 1)) (W : Waits sig (HIx 1)) : sProp 𝕄 :=
  iprop(∃ W', ⌜∀ p ∈ W', p ∈ W ∨ p.2 = none⌝ ∗ owes (thr d L) O W')

omit [FloatOps F] in
/-- A half of the input buffer is its thirds. -/
theorem inPts_thirds (jb : Fin 2) (f : S2x228x76.Idx → F .f32) :
    (inPts d L jb f : sProp 𝕄) = iprop(inThird d L jb f 0 ∗ inThird d L jb f 1 ∗ inThird d L jb f 2) := by
  have h : inHalf jb = (Finset.univ : Finset (Fin 3)).biUnion (dSet jb) := by
    ext y
    rw [Finset.mem_biUnion]
    constructor
    · intro hy
      have hy1 : (y 1).val < 228 := (y 1).isLt
      exact ⟨⟨(y 1).val / 76, by omega⟩, Finset.mem_univ _, (mem_dst jb _ y).mpr ⟨(Finset.mem_filter.mp hy).2, rfl⟩⟩
    · rintro ⟨a, -, ha⟩
      exact Finset.mem_filter.mpr ⟨Finset.mem_univ _, ((mem_dst jb a y).mp ha).1⟩
  unfold inPts
  rw [h, pointsTo_biUnion Finset.univ (ℓ := (inV).view.loc (thr d L)) (dSet jb)
    (fun a _ a' _ hne => dst_disjoint jb hne), bigSep_univ_eq_bigSepL [0, 1, 2] (by decide) (by decide)]; rfl

/-- The three deliveries are the half. -/
theorem dIn_all (fx : S30x76x64x128.Idx → F .f32) (c : Fin 10) (jb : Fin 2) :
    (bigSep Finset.univ (dIn d L fx c jb) : sProp 𝕄) = inPts d L jb (landed L c fx) :=
  (bigSep_univ_eq_bigSepL [0, 1, 2] (by decide) (by decide) (dIn d L fx c jb)).trans
    (inPts_thirds d L jb (landed L c fx)).symm

/-! ## One copy, one wait -/

/-- What a copy in leaves is what it is to deliver. -/
theorem fire_delivers (fx : S30x76x64x128.Idx → F .f32) (c : Fin 10) (jb : Fin 2) (a : Fin 3) (f : S2x228x76.Idx → F .f32) :
    iprop(((dstM jb a).view.loc (thr d L) ↦[(dstM jb a).view.set]{fullShare}
        ((dstM jb a).view.write (Elt F) f ((srcM L c jb a).view.read (Elt F) fx) Finset.univ))
      ∗ ((srcM L c jb a).view.loc (thr d L) ↦[(srcM L c jb a).view.set]{fullShare} fx)) ⊢ (dIn d L fx c jb ⟨a.val, a.isLt⟩ : sProp 𝕄) := by
  rw [pointsTo_congr (dst_written L c jb a fx f)]
  exact sep_elim_left

theorem wp_fire (fx : S30x76x64x128.Idx → F .f32) (c : Fin 10) (jb : Fin 2) (a : Fin 3) (f : S2x228x76.Idx → F .f32) :
    iprop(xPc d L fx c jb a ∗ inThird d L jb f a ∗ inB d L fx c jb a.val 0)
      ⊢ wp frame (wpE (defs₀ (F := F)) 𝒱₀ (thr d L) none) Set.univ (Ins.prog L (.fire c jb a))
          fun _ => inB d L fx c jb (a.val + 1) 0 := by
  unfold Ins.prog
  iintro ⟨Hx, Hd, Hb⟩
  have hh := fun (k : PUnit → Prog (Eff F L) PUnit) Q hsrc hdst hsem => Transfers.wp_dmaBatch countersEmb 𝒱₀ (thr d L) none
    (default : HIx 1) nIn (n := 3) (src := srcM L c jb a) (via := .same) (dst := dstM jb a)
    (Sd := (dstM jb a).view.set) (fd := f) (fs := fx) (q := fullShare) (D := dIn d L fx c jb)
    (j := a.val) (u := 0) (k := k) (Q := Q) (hsrc := hsrc) (hdst := hdst) (hsem := hsem) (defs := defs₀ (F := F))
    (amount_in jb a (siS jb).sem) (Finset.Subset.refl _) a.isLt (Nat.zero_le _) (fire_delivers d L fx c jb a f)
  iapply (hh Prog.ret _ _ _ _) $$ [Hx Hd Hb]
  · isplitl [Hx]; · iexact Hx
    isplitl [Hd]; · iexact Hd
    iexact Hb
  iintro Hb
  rw [wp_ret]
  imodintro
  iexact Hb
omit [FloatOps F] in
theorem owes_step {O : CellTallies nD τ sig (HIx 1)} {W W' : Waits sig (HIx 1)} (sm : SemLoc sig)
    (h : ∀ p ∈ W', p ∈ W ∨ p.2 = none) :
    (owes (thr d L) O (insert (sm, (default : HIx 1)) W') : sProp 𝕄) ⊢ owes' d L O W := by
  iintro H
  iexists _
  isplitr
  swap; · iexact H
  ipureintro
  intro p hp
  rcases Finset.mem_insert.mp hp with hp | hp
  · exact .inr (hp ▸ rfl)
  · exact h p hp

theorem wp_wait (O : CellTallies nD τ sig (HIx 1)) (W : Waits sig (HIx 1))
    (fx : S30x76x64x128.Idx → F .f32) (c : Fin 10) (jb : Fin 2) (a : Fin 3) (u : ℕ) (hu : u + nIn < nIn * 3) :
    iprop(Transfers.MayWaits (thr d L) (default : HIx 1) O ∗ inB d L fx c jb 3 u ∗ owes' d L O W)
      ⊢ wp frame (wpE (defs₀ (F := F)) 𝒱₀ (thr d L) none) Set.univ (Ins.prog L (.wait c jb a))
          fun _ => iprop(inB d L fx c jb 3 (u + nIn) ∗ owes' d L O W) := by
  unfold Ins.prog
  iintro ⟨Hmw, Hb, %W', %hW, HO⟩
  iapply (Transfers.wp_waitBatchO countersEmb 𝒱₀ (thr d L) none (default : HIx 1) (credit_in jb a) hu) $$ [Hmw Hb HO]
  · isplitl [Hb]; · iexact Hb
    isplitl [HO]; · iexact HO
    iapply (Transfers.MayWaits.elim (SemLoc.dma (siS jb).sem)) $$ Hmw
  iintro ⟨Hb, HO⟩
  rw [wp_ret]
  imodintro
  isplitl [Hb]; · iexact Hb
  iapply (owes_step d L _ hW) $$ HO

theorem wp_waitLast (O : CellTallies nD τ sig (HIx 1)) (W : Waits sig (HIx 1))
    (fx : S30x76x64x128.Idx → F .f32) (c : Fin 10) (jb : Fin 2) (a : Fin 3) (u : ℕ) (hu : u + nIn = nIn * 3) :
    iprop(Transfers.MayWaits (thr d L) (default : HIx 1) O ∗ inB d L fx c jb 3 u ∗ owes' d L O W)
      ⊢ wp frame (wpE (defs₀ (F := F)) 𝒱₀ (thr d L) none) Set.univ (Ins.prog L (.wait c jb a))
          fun _ => iprop(inPts d L jb (landed L c fx) ∗ semVal (siCell d L jb) 0 ∗ owes' d L O W) := by
  unfold Ins.prog
  iintro ⟨Hmw, Hb, %W', %hW, HO⟩
  iapply (Transfers.wp_waitBatchLastO countersEmb 𝒱₀ (thr d L) none (default : HIx 1) (credit_in jb a) nIn_pos hu) $$ [Hmw Hb HO]
  · isplitl [Hb]; · iexact Hb
    isplitl [HO]; · iexact HO
    iapply (Transfers.MayWaits.elim (SemLoc.dma (siS jb).sem)) $$ Hmw
  iintro ⟨Hb, Hs, HO⟩
  rw [wp_ret]
  imodintro
  isplitl [Hb]
  · iapply (Entails.of_eq (dIn_all d L fx c jb)) $$ Hb
  isplitl [Hs]; · iexact Hs
  iapply (owes_step d L _ hW) $$ HO

theorem wp_ofire (fx : S30x76x64x128.Idx → F .f32) (c : Fin 10) (jb : Fin 2) (f : (ovM jb).view.ty.Contents (Elt F))
    (hf : (ovM jb).view.read (Elt F) f = lineOf c jb (landed L c fx)) (fo : S10x64x17328.Idx → F .f32) :
    iprop(ovPts d L jb f ∗ oPc d L c jb fo ∗ semVal (soCell d L jb) 0)
      ⊢ wp frame (wpE (defs₀ (F := F)) 𝒱₀ (thr d L) none) Set.univ (Ins.prog L (.ofire c jb))
          fun _ => outB d L fx c jb := by
  unfold Ins.prog
  have hset : (ovM jb).view.set = Finset.univ := Memref.IsWhole.set_eq_univ (ovM_whole jb)
  have hD : iprop(((outM L c jb).view.loc (thr d L) ↦[(outM L c jb).view.set]{fullShare}
        ((outM L c jb).view.write (Elt F) fo ((ovM jb).view.read (Elt F) f) Finset.univ))
      ∗ ((ovM jb).view.loc (thr d L) ↦[(ovM jb).view.set]{fullShare} f))
      ⊢ (iprop(oPc d L c jb (decArr fx) ∗ ∃ f, ovPts d L jb f) : sProp 𝕄) := by
    rw [pointsTo_congr (out_written L c jb fx _ hf fo), hset]
    iintro ⟨H, Ho⟩
    isplitl [H]; · iexact H
    iexists f
    iexact Ho
  iintro ⟨Ho, Hd, Hs⟩
  iapply (Transfers.wp_dmaLocal countersEmb 𝒱₀ (thr d L) none (src := ovM jb) (via := .same) (dst := outM L c jb)
    (Sd := (outM L c jb).view.set) (fd := fo) (fs := f) (q := fullShare) (default : HIx 1) nOut
    (amount_out L c jb _) nOut_pos (Finset.Subset.refl _)) $$ [Ho Hd Hs]
  · isplitl [Ho]; · rw [hset]; iexact Ho
    isplitl [Hd]; · iexact Hd
    iexact Hs
  iintro Hb
  rw [wp_ret]
  imodintro
  iapply (Transfers.Flight_mono countersEmb (thr d L) hD) $$ Hb

theorem wp_owait (O : CellTallies nD τ sig (HIx 1)) (W : Waits sig (HIx 1))
    (fx : S30x76x64x128.Idx → F .f32) (c : Fin 10) (jb : Fin 2) :
    iprop(Transfers.MayWaits (thr d L) (default : HIx 1) O ∗ outB d L fx c jb ∗ owes' d L O W)
      ⊢ wp frame (wpE (defs₀ (F := F)) 𝒱₀ (thr d L) none) Set.univ (Ins.prog L (.owait c jb))
          fun _ => iprop(oPc d L c jb (decArr fx) ∗ (∃ f, ovPts d L jb f) ∗ semVal (soCell d L jb) 0 ∗ owes' d L O W) := by
  unfold Ins.prog
  iintro ⟨Hmw, Hb, %W', %hW, HO⟩
  iapply (Transfers.wp_waitLocalO countersEmb 𝒱₀ (thr d L) none (default : HIx 1) (credit_out L c jb)) $$ [Hmw Hb HO]
  · isplitl [Hb]; · iexact Hb
    isplitl [HO]; · iexact HO
    iapply (Transfers.MayWaits.elim (SemLoc.dma (soS jb).sem)) $$ Hmw
  iintro ⟨⟨Hd, Ho⟩, Hs, HO⟩
  rw [wp_ret]
  imodintro
  isplitl [Hd]; · iexact Hd
  isplitl [Ho]; · iexact Ho
  isplitl [Hs]; · iexact Hs
  iapply (owes_step d L _ hW) $$ HO

end Cert.KernelIdeal.Decode
-- ==== Proof.Task.lean ====
/-
A tile's tasks, one after another: each waits for its slices, starts the next task's, recodes and starts its copy out.
-/
module

public import proofs.«01_k».proof.Proof.Copies

@[expose] public section

noncomputable section

namespace Cert.KernelIdeal.Decode

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-! ## Running a list -/

/-- A part of the run, from what it leaves. -/
theorem wp_then {p : Prog (Eff F L) PUnit} {P : sProp 𝕄} {R Q : PUnit → sProp 𝕄}
    (h : P ⊢ wp frame (wpE (defs₀ (F := F)) 𝒱₀ (thr d L) none) Set.univ p R) :
    P ⊢ iprop((R ⟨⟩ -∗ Q ⟨⟩) -∗ wp frame (wpE (defs₀ (F := F)) 𝒱₀ (thr d L) none) Set.univ p Q) := by
  iintro HP HR
  iapply (wp_wand_r frame _ _)
  isplitl [HP]
  · iapply h; iexact HP
  · iintro %_ H
    iapply HR; iexact H

theorem wp_run_nil (Q : PUnit → sProp 𝕄) :
    Q ⟨⟩ ⊢ wp frame (wpE (defs₀ (F := F)) 𝒱₀ (thr d L) none) Set.univ (run L []) Q := by
  unfold run
  rw [wp_pure]
  iintro H
  imodintro
  iexact H

theorem wp_run_cons (a : Ins) (l : List Ins) (Q : PUnit → sProp 𝕄) :
    wp frame (wpE (defs₀ (F := F)) 𝒱₀ (thr d L) none) Set.univ (run L (a :: l)) Q
      = wp frame (wpE (defs₀ (F := F)) 𝒱₀ (thr d L) none) Set.univ (Ins.prog L a)
          fun _ => wp frame (wpE (defs₀ (F := F)) 𝒱₀ (thr d L) none) Set.univ (run L l) Q := by
  conv_lhs => unfold run
  exact wp_bind _ _ _ _ _ _

theorem wp_run_append (l k : List Ins) (Q : PUnit → sProp 𝕄) :
    wp frame (wpE (defs₀ (F := F)) 𝒱₀ (thr d L) none) Set.univ (run L (l ++ k)) Q
      = wp frame (wpE (defs₀ (F := F)) 𝒱₀ (thr d L) none) Set.univ (run L l)
          fun _ => wp frame (wpE (defs₀ (F := F)) 𝒱₀ (thr d L) none) Set.univ (run L k) Q := by
  rw [run_append]
  exact wp_bind _ _ _ _ _ _

/-! ## What a tile holds between two tasks -/

/-- A half of the input buffer with no copy under way. -/
abbrev inIdle (jb : Fin 2) : sProp 𝕄 := iprop((∃ f, inPts d L jb f) ∗ semVal (siCell d L jb) 0)
/-- A half's output buffer with no copy under way. -/
abbrev outIdle (jb : Fin 2) : sProp 𝕄 := iprop((∃ f, ovPts d L jb f) ∗ semVal (soCell d L jb) 0)

/-- The half's output buffer before channel `c`'s task: the channel before's copy is under way, if there is one. -/
def outPrev (fx : S30x76x64x128.Idx → F .f32) : ℕ → Fin 2 → sProp 𝕄
  | 0, jb => outIdle d L jb
  | c + 1, jb => if h : c < 10 then outB d L fx ⟨c, h⟩ jb else iprop(emp)
/-- What that copy delivers of the result. -/
def donePrev (fx : S30x76x64x128.Idx → F .f32) : ℕ → Fin 2 → sProp 𝕄
  | 0, _ => iprop(emp)
  | c + 1, jb => if h : c < 10 then oPc d L ⟨c, h⟩ jb (decArr fx) else iprop(emp)
/-- The first half's input at channel `c`: its copies are under way, if there is such a channel. -/
def inAt (fx : S30x76x64x128.Idx → F .f32) (c : ℕ) : sProp 𝕄 :=
  if h : c < 10 then inB d L fx ⟨c, h⟩ 0 3 0 else inIdle d L 0
/-- The slices of the first half's task of channel `c`, if there is one. -/
def xAt (fx : S30x76x64x128.Idx → F .f32) (c : ℕ) : sProp 𝕄 :=
  if h : c < 10 then xPcs d L fx ⟨c, h⟩ 0 else iprop(emp)

/-! ## The parts of a task -/

theorem wp_fires (fx : S30x76x64x128.Idx → F .f32) (c : Fin 10) (jb : Fin 2) :
    iprop(inIdle d L jb ∗ xPcs d L fx c jb)
      ⊢ wp frame (wpE (defs₀ (F := F)) 𝒱₀ (thr d L) none) Set.univ (run L (fires c jb)) fun _ => inB d L fx c jb 3 0 := by
  unfold fires
  iintro ⟨⟨⟨%f, Hi⟩, Hs⟩, Hx0, Hx1, Hx2⟩
  ihave Hi := (Entails.of_eq (inPts_thirds d L jb f)) $$ Hi
  icases Hi with ⟨Hi0, Hi1, Hi2⟩
  imod (Transfers.batch_alloc' countersEmb (thr d L) (sm := .dma (siS jb).sem) (default : HIx 1) nIn (dIn d L fx c jb) (E := Set.univ)) $$ Hs with Hb
  rw [wp_run_cons]
  iapply (wp_then d L (wp_fire d L fx c jb 0 f)) $$ [Hx0 Hi0 Hb]
  · isplitl [Hx0]; · iexact Hx0
    isplitl [Hi0]; · iexact Hi0
    iexact Hb
  iintro Hb
  rw [wp_run_cons]
  iapply (wp_then d L (wp_fire d L fx c jb 1 f)) $$ [Hx1 Hi1 Hb]
  · isplitl [Hx1]; · iexact Hx1
    isplitl [Hi1]; · iexact Hi1
    iexact Hb
  iintro Hb
  rw [wp_run_cons]
  iapply (wp_then d L (wp_fire d L fx c jb 2 f)) $$ [Hx2 Hi2 Hb]
  · isplitl [Hx2]; · iexact Hx2
    isplitl [Hi2]; · iexact Hi2
    iexact Hb
  iintro Hb
  iapply (wp_run_nil d L _)
  iexact Hb

variable (O : CellTallies nD τ sig (HIx 1)) (W : Waits sig (HIx 1))

/-- The waits may be made, whatever the tile owes. -/
abbrev mayW : sProp 𝕄 := Transfers.MayWaits (thr d L) (default : HIx 1) O

theorem wp_waits (fx : S30x76x64x128.Idx → F .f32) (c : Fin 10) (jb : Fin 2) :
    iprop(mayW d L O ∗ inB d L fx c jb 3 0 ∗ owes' d L O W)
      ⊢ wp frame (wpE (defs₀ (F := F)) 𝒱₀ (thr d L) none) Set.univ (run L (waits c jb))
          fun _ => iprop(inPts d L jb (landed L c fx) ∗ semVal (siCell d L jb) 0 ∗ owes' d L O W) := by
  unfold waits
  have hp := nIn_pos
  iintro ⟨#Hmw, Hb, HO⟩
  rw [wp_run_cons]
  iapply (wp_then d L (wp_wait d L O W fx c jb 0 0 (by omega))) $$ [Hb HO]
  · isplitr; · iexact Hmw
    isplitl [Hb]; · iexact Hb
    iexact HO
  iintro ⟨Hb, HO⟩
  rw [wp_run_cons]
  iapply (wp_then d L (wp_wait d L O W fx c jb 1 (0 + nIn) (by omega))) $$ [Hb HO]
  · isplitr; · iexact Hmw
    isplitl [Hb]; · iexact Hb
    iexact HO
  iintro ⟨Hb, HO⟩
  rw [wp_run_cons]
  iapply (wp_then d L (wp_waitLast d L O W fx c jb 2 (0 + nIn + nIn) (by omega))) $$ [Hb HO]
  · isplitr; · iexact Hmw
    isplitl [Hb]; · iexact Hb
    iexact HO
  iintro H
  iapply (wp_run_nil d L _)
  iexact H

theorem wp_before (fx : S30x76x64x128.Idx → F .f32) (c : Fin 10) (jb : Fin 2) :
    iprop(mayW d L O ∗ outPrev d L fx c.val jb ∗ owes' d L O W)
      ⊢ wp frame (wpE (defs₀ (F := F)) 𝒱₀ (thr d L) none) Set.univ (run L (before c jb))
          fun _ => iprop(donePrev d L fx c.val jb ∗ outIdle d L jb ∗ owes' d L O W) := by
  obtain ⟨c, hc⟩ := c
  unfold before
  cases c with
  | zero =>
    rw [if_pos rfl]
    simp only [outPrev, donePrev]
    iintro ⟨-, Ho, HO⟩
    iapply (wp_run_nil d L _)
    isplitr; · iempintro
    isplitl [Ho]; · iexact Ho
    iexact HO
  | succ c =>
    have hc' : c < 10 := by omega
    rw [if_neg (Nat.succ_ne_zero c)]
    simp only [outPrev, donePrev, dif_pos hc']
    rw [wp_run_cons]
    iintro H
    iapply (wp_then d L (wp_owait d L O W fx ⟨c, hc'⟩ jb)) $$ H
    iintro ⟨Hd, Ho, Hs, HO⟩
    iapply (wp_run_nil d L _)
    isplitl [Hd]; · iexact Hd
    isplitl [Ho Hs]
    · isplitl [Ho]; · iexact Ho
      iexact Hs
    iexact HO

/-- A task's own part, once its slices have landed: the line is made and its copy out started. -/
theorem wp_recode (fx : S30x76x64x128.Idx → F .f32) (c : Fin 10) (jb : Fin 2) :
    iprop(inPts d L jb (landed L c fx) ∗ outIdle d L jb ∗ ∃ fo, oPc d L c jb fo)
      ⊢ wp frame (wpE (defs₀ (F := F)) 𝒱₀ (thr d L) none) Set.univ (run L [.loop c jb, .ofire c jb])
          fun _ => iprop((∃ f, inPts d L jb f) ∗ outB d L fx c jb) := by
  iintro ⟨Hi, ⟨Ho, Hs⟩, %fo, Hd⟩
  rw [wp_run_cons]
  iapply (wp_then d L (wp_loop d L c jb (landed L c fx))) $$ [Hi Ho]
  · isplitl [Hi]; · iexact Hi
    iexact Ho
  iintro ⟨Hi, %f, %hf, Ho⟩
  rw [wp_run_cons]
  iapply (wp_then d L (wp_ofire d L fx c jb f hf fo)) $$ [Ho Hd Hs]
  · isplitl [Ho]; · iexact Ho
    isplitl [Hd]; · iexact Hd
    iexact Hs
  iintro Hb
  iapply (wp_run_nil d L _)
  isplitl [Hi]; · iexists _; iexact Hi
  iexact Hb

/-- A task, given what starting the next one's copies takes (`A`) and leaves (`B`). -/
theorem wp_task (fx : S30x76x64x128.Idx → F .f32) (c : Fin 10) (jb : Fin 2) (A B : sProp 𝕄)
    (hn : A ⊢ wp frame (wpE (defs₀ (F := F)) 𝒱₀ (thr d L) none) Set.univ (run L (next c jb)) fun _ => B) :
    iprop(mayW d L O ∗ inB d L fx c jb 3 0 ∗ A ∗ outPrev d L fx c.val jb ∗ (∃ fo, oPc d L c jb fo) ∗ owes' d L O W)
      ⊢ wp frame (wpE (defs₀ (F := F)) 𝒱₀ (thr d L) none) Set.univ (run L (task c jb))
          fun _ => iprop(inIdle d L jb ∗ B ∗ outB d L fx c jb ∗ donePrev d L fx c.val jb ∗ owes' d L O W) := by
  unfold task
  iintro ⟨#Hmw, Hb, HA, Ho, Hd, HO⟩
  rw [wp_run_append]
  iapply (wp_then d L (wp_waits d L O W fx c jb)) $$ [Hb HO]
  · isplitr; · iexact Hmw
    isplitl [Hb]; · iexact Hb
    iexact HO
  iintro ⟨Hi, Hs, HO⟩
  rw [wp_run_append]
  iapply (wp_then d L hn) $$ HA
  iintro HB
  rw [wp_run_append]
  iapply (wp_then d L (wp_before d L O W fx c jb)) $$ [Ho HO]
  · isplitr; · iexact Hmw
    isplitl [Ho]; · iexact Ho
    iexact HO
  iintro ⟨Hdone, Ho, HO⟩
  iapply (wp_then d L (wp_recode d L fx c jb)) $$ [Hi Ho Hd]
  · isplitl [Hi]; · iexact Hi
    isplitl [Ho]; · iexact Ho
    iexact Hd
  iintro ⟨Hi, Hb⟩
  isplitl [Hi Hs]
  · isplitl [Hi]; · iexact Hi
    iexact Hs
  isplitl [HB]; · iexact HB
  isplitl [Hb]; · iexact Hb
  isplitl [Hdone]; · iexact Hdone
  iexact HO

theorem next_zero (fx : S30x76x64x128.Idx → F .f32) (c : Fin 10) :
    iprop(inIdle d L 1 ∗ xPcs d L fx c 1)
      ⊢ wp frame (wpE (defs₀ (F := F)) 𝒱₀ (thr d L) none) Set.univ (run L (next c 0)) fun _ => inB d L fx c 1 3 0 := by
  unfold next
  rw [if_pos (by rfl)]
  exact wp_fires d L fx c 1

theorem next_one (fx : S30x76x64x128.Idx → F .f32) (c : Fin 10) :
    iprop(inIdle d L 0 ∗ xAt d L fx (c.val + 1))
      ⊢ wp frame (wpE (defs₀ (F := F)) 𝒱₀ (thr d L) none) Set.univ (run L (next c 1)) fun _ => inAt d L fx (c.val + 1) := by
  unfold next xAt inAt
  rw [if_neg (by decide)]
  split
  · exact wp_fires d L fx _ 0
  · iintro ⟨H, -⟩
    iapply (wp_run_nil d L _)
    iexact H

/-! ## All the tasks -/

/-- The pieces `Φ` of the channels from `c` on. -/
def chans (Φ : Fin 10 → Fin 2 → sProp 𝕄) : (n : ℕ) → (c : ℕ) → (h : c + n = 10) → sProp 𝕄
  | 0, _, _ => iprop(emp)
  | n + 1, c, h => iprop((Φ ⟨c, by omega⟩ 0 ∗ Φ ⟨c, by omega⟩ 1) ∗ chans Φ n (c + 1) (by omega))
/-- Those but the first. -/
def chansR (Φ : Fin 10 → Fin 2 → sProp 𝕄) : (n : ℕ) → (c : ℕ) → (h : c + n = 10) → sProp 𝕄
  | 0, _, _ => iprop(emp)
  | n + 1, c, h => iprop(Φ ⟨c, by omega⟩ 1 ∗ chans Φ n (c + 1) (by omega))

omit [FloatOps F] in
theorem chans_all (Φ : Fin 10 → Fin 2 → sProp 𝕄) :
    chans Φ 10 0 rfl = bigSep Finset.univ fun c => iprop(Φ c 0 ∗ Φ c 1) := by
  rw [bigSep_univ_eq_bigSepL [0, 1, 2, 3, 4, 5, 6, 7, 8, 9] (by decide) (by decide)]
  simp only [bigSepL_cons, bigSepL_nil]
  rfl

omit [FloatOps F] in
theorem chans_first (fx : S30x76x64x128.Idx → F .f32) (n c : ℕ) (h : c + n = 10) :
    chans (xPcs d L fx) n c h ⊢ (iprop(xAt d L fx c ∗ chansR (xPcs d L fx) n c h) : sProp 𝕄) := by
  unfold xAt
  cases n with
  | zero =>
    rw [dif_neg (by omega)]
    simp only [chans, chansR]
    iintro -
    isplitr; · iempintro
    iempintro
  | succ n =>
    rw [dif_pos (by omega)]
    show iprop((xPcs d L fx ⟨c, _⟩ 0 ∗ xPcs d L fx ⟨c, _⟩ 1) ∗ chans (xPcs d L fx) n (c + 1) _) ⊢ iprop(xPcs d L fx ⟨c, _⟩ 0 ∗ (xPcs d L fx ⟨c, _⟩ 1 ∗ chans (xPcs d L fx) n (c + 1) _))
    iintro ⟨⟨H0, H1⟩, H⟩
    isplitl [H0]; · iexact H0
    isplitl [H1]; · iexact H1
    iexact H

theorem wp_tasks (fx : S30x76x64x128.Idx → F .f32) : ∀ (n c : ℕ) (h : c + n = 10),
    iprop(mayW d L O ∗ inAt d L fx c ∗ inIdle d L 1 ∗ chansR (xPcs d L fx) n c h ∗ outPrev d L fx c 0 ∗ outPrev d L fx c 1
        ∗ chans (fun c jb => iprop(∃ fo, oPc d L c jb fo)) n c h ∗ owes' d L O W)
      ⊢ wp frame (wpE (defs₀ (F := F)) 𝒱₀ (thr d L) none) Set.univ (run L (tasks n c h))
          fun _ => iprop((donePrev d L fx c 0 ∗ donePrev d L fx c 1) ∗ chans (fun c jb => oPc d L c jb (decArr fx)) n c h
            ∗ inIdle d L 0 ∗ inIdle d L 1 ∗ outIdle d L 0 ∗ outIdle d L 1 ∗ owes' d L O W) := by
  intro n
  induction n with
  | zero =>
    intro c h
    obtain rfl : c = 10 := by omega
    show iprop(mayW d L O ∗ inIdle d L 0 ∗ inIdle d L 1 ∗ emp ∗ outB d L fx 9 0 ∗ outB d L fx 9 1 ∗ emp ∗ owes' d L O W)
      ⊢ wp frame (wpE (defs₀ (F := F)) 𝒱₀ (thr d L) none) Set.univ (run L [.owait 9 0, .owait 9 1])
          fun _ => iprop((oPc d L 9 0 (decArr fx) ∗ oPc d L 9 1 (decArr fx)) ∗ emp
            ∗ inIdle d L 0 ∗ inIdle d L 1 ∗ outIdle d L 0 ∗ outIdle d L 1 ∗ owes' d L O W)
    iintro ⟨#Hmw, Hi0, Hi1, -, Ho0, Ho1, -, HO⟩
    rw [wp_run_cons]
    iapply (wp_then d L (wp_owait d L O W fx 9 0)) $$ [Ho0 HO]
    · isplitr; · iexact Hmw
      isplitl [Ho0]; · iexact Ho0
      iexact HO
    iintro ⟨Hd0, Ho0, Hs0, HO⟩
    rw [wp_run_cons]
    iapply (wp_then d L (wp_owait d L O W fx 9 1)) $$ [Ho1 HO]
    · isplitr; · iexact Hmw
      isplitl [Ho1]; · iexact Ho1
      iexact HO
    iintro ⟨Hd1, Ho1, Hs1, HO⟩
    iapply (wp_run_nil d L _)
    isplitl [Hd0 Hd1]
    · isplitl [Hd0]; · iexact Hd0
      iexact Hd1
    isplitr; · iempintro
    isplitl [Hi0]; · iexact Hi0
    isplitl [Hi1]; · iexact Hi1
    isplitl [Ho0 Hs0]
    · isplitl [Ho0]; · iexact Ho0
      iexact Hs0
    isplitl [Ho1 Hs1]
    · isplitl [Ho1]; · iexact Ho1
      iexact Hs1
    iexact HO
  | succ n ih =>
    intro c h
    have hc : c < 10 := by omega
    simp only [tasks, chans, chansR]
    rw [show inAt d L fx c = inB d L fx ⟨c, hc⟩ 0 3 0 from dif_pos hc]
    iintro ⟨#Hmw, Hb, Hi1, ⟨Hx1, Hx⟩, Hp0, Hp1, ⟨⟨Hd0, Hd1⟩, Hd⟩, HO⟩
    ihave Hx := (chans_first d L fx n (c + 1) _) $$ Hx
    icases Hx with ⟨Hx0, Hx⟩
    rw [wp_run_append]
    iapply (wp_then d L (wp_task d L O W fx ⟨c, hc⟩ 0 _ _ (next_zero d L fx ⟨c, hc⟩))) $$ [Hb Hi1 Hx1 Hp0 Hd0 HO]
    · isplitr; · iexact Hmw
      isplitl [Hb]; · iexact Hb
      isplitl [Hi1 Hx1]
      · isplitl [Hi1]; · iexact Hi1
        iexact Hx1
      isplitl [Hp0]; · iexact Hp0
      isplitl [Hd0]; · iexact Hd0
      iexact HO
    iintro ⟨Hi0, Hb, Ho0, Hdone0, HO⟩
    rw [wp_run_append]
    iapply (wp_then d L (wp_task d L O W fx ⟨c, hc⟩ 1 _ _ (next_one d L fx ⟨c, hc⟩))) $$ [Hb Hi0 Hx0 Hp1 Hd1 HO]
    · isplitr; · iexact Hmw
      isplitl [Hb]; · iexact Hb
      isplitl [Hi0 Hx0]
      · isplitl [Hi0]; · iexact Hi0
        iexact Hx0
      isplitl [Hp1]; · iexact Hp1
      isplitl [Hd1]; · iexact Hd1
      iexact HO
    iintro ⟨Hi1, Hb, Ho1, Hdone1, HO⟩
    iapply (wp_then d L (ih (c + 1) _)) $$ [Hb Hi1 Hx Ho0 Ho1 Hd HO]
    · isplitr; · iexact Hmw
      isplitl [Hb]; · iexact Hb
      isplitl [Hi1]; · iexact Hi1
      isplitl [Hx]; · iexact Hx
      rw [show outPrev d L fx (c + 1) 0 = outB d L fx ⟨c, hc⟩ 0 from dif_pos hc, show outPrev d L fx (c + 1) 1 = outB d L fx ⟨c, hc⟩ 1 from dif_pos hc]
      isplitl [Ho0]; · iexact Ho0
      isplitl [Ho1]; · iexact Ho1
      isplitl [Hd]; · iexact Hd
      iexact HO
    rw [show donePrev d L fx (c + 1) 0 = oPc d L ⟨c, hc⟩ 0 (decArr fx) from dif_pos hc, show donePrev d L fx (c + 1) 1 = oPc d L ⟨c, hc⟩ 1 (decArr fx) from dif_pos hc]
    iintro ⟨Hd, Hds, H⟩
    isplitl [Hdone0 Hdone1]
    · isplitl [Hdone0]; · iexact Hdone0
      iexact Hdone1
    isplitl [Hd Hds]
    · isplitl [Hd]; · iexact Hd
      iexact Hds
    iexact H

/-- The whole run, from every slice and the buffers to every slice of the result. -/
theorem wp_all (fx : S30x76x64x128.Idx → F .f32) :
    iprop(mayW d L O ∗ chans (xPcs d L fx) 10 0 rfl ∗ chans (fun c jb => iprop(∃ fo, oPc d L c jb fo)) 10 0 rfl
        ∗ inIdle d L 0 ∗ inIdle d L 1 ∗ outIdle d L 0 ∗ outIdle d L 1 ∗ owes' d L O W)
      ⊢ wp frame (wpE (defs₀ (F := F)) 𝒱₀ (thr d L) none) Set.univ (run L (fires 0 0 ++ tasks 10 0 rfl))
          fun _ => iprop(chans (fun c jb => oPc d L c jb (decArr fx)) 10 0 rfl
            ∗ inIdle d L 0 ∗ inIdle d L 1 ∗ outIdle d L 0 ∗ outIdle d L 1 ∗ owes' d L O W) := by
  iintro ⟨#Hmw, Hx, Hd, Hi0, Hi1, Ho0, Ho1, HO⟩
  ihave Hx := (chans_first d L fx 10 0 rfl) $$ Hx
  icases Hx with ⟨Hx0, Hx⟩
  rw [wp_run_append]
  iapply (wp_then d L (wp_fires d L fx 0 0)) $$ [Hi0 Hx0]
  · isplitl [Hi0]; · iexact Hi0
    iapply (Entails.of_eq (show xAt d L fx 0 = xPcs d L fx 0 0 from dif_pos (show (0 : ℕ) < 10 by omega))); iexact Hx0
  iintro Hb
  iapply (wp_then d L (wp_tasks d L O W fx 10 0 rfl)) $$ [Hb Hi1 Hx Ho0 Ho1 Hd HO]
  · isplitr; · iexact Hmw
    isplitl [Hb]
    · iapply (Entails.of_eq ((show inAt d L fx 0 = inB d L fx 0 0 3 0 from dif_pos (show (0 : ℕ) < 10 by omega)).symm)); iexact Hb
    isplitl [Hi1]; · iexact Hi1
    isplitl [Hx]; · iexact Hx
    simp only [outPrev]
    isplitl [Ho0]; · iexact Ho0
    isplitl [Ho1]; · iexact Ho1
    isplitl [Hd]; · iexact Hd
    iexact HO
  iintro ⟨-, H⟩
  iexact H

end Cert.KernelIdeal.Decode
-- ==== Proof.Deal.lean ====
/-
The padded input and the result, dealt to the tiles: whole, by core, by tile, by channel, by half (and by third).
-/
module

public import proofs.«01_k».proof.Proof.Copies

@[expose] public section

noncomputable section

namespace Cert.KernelIdeal.Decode

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

/-- The tile of core `c` and subcore `i`. -/
abbrev tile (c : Fin 2) (i : Fin 16) : grid0.Coords := coordsV c i

theorem lane_tile (c : Fin 2) (i : Fin 16) (jb : Fin 2) : (lane (tile c i) jb).val = 2 * i.val + c.val + 32 * jb.val := rfl

abbrev xLoc (d : Dev nD) : Loc nD τ sig := (SparseCore.T d).loc main_v1
abbrev oLoc (d : Dev nD) : Loc nD τ sig := (SparseCore.T d).loc main_v2

omit [FloatOps F] in
/-- A buffer over parts that are apart is held part by part. -/
theorem pts_parts {ι : Type} [Fintype ι] [DecidableEq ι] (ℓ : Loc nD τ sig) (f : Buf (Elt F) ℓ) (A : Finset (Idx ℓ))
    (S : ι → Finset (Idx ℓ)) (hm : ∀ y, y ∈ A ↔ ∃ i, y ∈ S i) (hd : ∀ i j y, y ∈ S i → y ∈ S j → i = j) :
    (ℓ ↦[A]{fullShare} f : sProp 𝕄) = bigSep Finset.univ fun i => ℓ ↦[S i]{fullShare} f := by
  rw [← pointsTo_biUnion Finset.univ (ℓ := ℓ) S fun i _ j _ hne => Finset.disjoint_left.mpr fun y h₁ h₂ => hne (hd i j y h₁ h₂)]
  congr 1
  ext y
  simp [hm]

/-! ## The result -/

def oCore (c : Fin 2) : Finset S10x64x17328.Idx := Finset.univ.filter fun y => (y 1).val % 2 = c.val
def oTile (c : Fin 2) (i : Fin 16) : Finset S10x64x17328.Idx := Finset.univ.filter fun y => (y 1).val % 32 = 2 * i.val + c.val
def oChan (c : Fin 2) (i : Fin 16) (ch : Fin 10) : Finset S10x64x17328.Idx :=
  Finset.univ.filter fun y => (y 1).val % 32 = 2 * i.val + c.val ∧ (y 0).val = ch.val

/-- A core's part of the result. -/
abbrev oCorePts (d : Dev nD) (c : Fin 2) (f : S10x64x17328.Idx → F .f32) : sProp 𝕄 := oLoc d ↦[oCore c]{fullShare} f
/-- A tile's part, by channel and half. -/
abbrev oTilePts (d : Dev nD) (L : grid0.Coords) (f : S10x64x17328.Idx → F .f32) : sProp 𝕄 :=
  bigSep Finset.univ fun ch : Fin 10 => iprop(oPc d L ch 0 f ∗ oPc d L ch 1 f)

omit [FloatOps F] in
theorem oPts_cores (d : Dev nD) (f : S10x64x17328.Idx → F .f32) :
    (oLoc d ↦{fullShare} f : sProp 𝕄) = iprop(oCorePts d 0 f ∗ oCorePts d 1 f) := by
  refine (pts_parts (oLoc d) f Finset.univ oCore (fun y => ?_) fun i j y => ?_).trans (BI.bigSep_fin_two _)
  · exact ⟨fun _ => ⟨⟨(y 1).val % 2, Nat.mod_lt _ (by omega)⟩, Finset.mem_filter.mpr ⟨Finset.mem_univ _, rfl⟩⟩, fun _ => Finset.mem_univ _⟩
  · intro h₁ h₂
    exact Fin.ext ((Finset.mem_filter.mp h₁).2.symm.trans (Finset.mem_filter.mp h₂).2)

omit [FloatOps F] in
theorem oCore_tiles (d : Dev nD) (c : Fin 2) (f : S10x64x17328.Idx → F .f32) :
    (oCorePts d c f : sProp 𝕄) = bigSep Finset.univ fun i : Fin 16 => oTilePts d (tile c i) f := by
  refine (pts_parts (oLoc d) f (oCore c) (oTile c) (fun y => ?_) fun i j y => ?_).trans (bigSep_congr fun i _ => ?_)
  · simp only [oCore, oTile, Finset.mem_filter, Finset.mem_univ, _root_.true_and]
    constructor
    · intro h; exact ⟨⟨(y 1).val % 32 / 2, by omega⟩, by show _ = 2 * ((y 1).val % 32 / 2) + c.val; omega⟩
    · rintro ⟨i, h⟩; omega
  · simp only [oTile, Finset.mem_filter, Finset.mem_univ, _root_.true_and]
    intro h₁ h₂; exact Fin.ext (by omega)
  refine (pts_parts (oLoc d) f (oTile c i) (oChan c i) (fun y => ?_) fun i j y => ?_).trans (bigSep_congr fun ch _ => ?_)
  · simp only [oTile, oChan, Finset.mem_filter, Finset.mem_univ, _root_.true_and]
    exact ⟨fun h => ⟨y 0, h, rfl⟩, fun ⟨_, h, _⟩ => h⟩
  · simp only [oChan, Finset.mem_filter, Finset.mem_univ, _root_.true_and]
    intro h₁ h₂; exact Fin.ext (h₁.2.symm.trans h₂.2)
  refine (pts_parts (oLoc d) f (oChan c i ch) (oSet (tile c i) ch) (fun y => ?_) fun i j y => ?_).trans (BI.bigSep_fin_two _)
  · have hy : (y 1).val < 64 := (y 1).isLt
    simp only [oChan, Finset.mem_filter, Finset.mem_univ, _root_.true_and]
    constructor
    · rintro ⟨h, h0⟩
      refine ⟨⟨(y 1).val / 32, by omega⟩, (mem_out _ _ _ y).mpr ⟨Fin.ext h0, Fin.ext ?_⟩⟩
      rw [lane_tile]
      show (y 1).val = 2 * i.val + c.val + 32 * ((y 1).val / 32)
      omega
    · rintro ⟨jb, h⟩
      obtain ⟨h0, h1⟩ := (mem_out _ _ _ y).mp h
      have e := congrArg Fin.val h1
      rw [lane_tile] at e
      exact ⟨by omega, congrArg Fin.val h0⟩
  · intro h₁ h₂
    have e₁ := congrArg Fin.val ((mem_out _ _ _ y).mp h₁).2
    have e₂ := congrArg Fin.val ((mem_out _ _ _ y).mp h₂).2
    rw [lane_tile] at e₁ e₂
    exact Fin.ext (by omega)

/-! ## The padded input -/

def xCore (c : Fin 2) : Finset S30x76x64x128.Idx := Finset.univ.filter fun y => (y 2).val % 2 = c.val
def xTile (c : Fin 2) (i : Fin 16) : Finset S30x76x64x128.Idx := Finset.univ.filter fun y => (y 2).val % 32 = 2 * i.val + c.val
def xChan (c : Fin 2) (i : Fin 16) (ch : Fin 10) : Finset S30x76x64x128.Idx :=
  Finset.univ.filter fun y => (y 2).val % 32 = 2 * i.val + c.val ∧ (y 0).val % 10 = ch.val
def xHalf (c : Fin 2) (i : Fin 16) (ch : Fin 10) (jb : Fin 2) : Finset S30x76x64x128.Idx :=
  Finset.univ.filter fun y => (y 2).val = 2 * i.val + c.val + 32 * jb.val ∧ (y 0).val % 10 = ch.val
def xThird (c : Fin 2) (i : Fin 16) (ch : Fin 10) (jb : Fin 2) (a : Fin 3) : Finset S30x76x64x128.Idx :=
  Finset.univ.filter fun y => (y 2).val = 2 * i.val + c.val + 32 * jb.val ∧ (y 0).val = 10 * a.val + ch.val

/-- A core's part of the padded input. -/
abbrev xCorePts (d : Dev nD) (c : Fin 2) (f : S30x76x64x128.Idx → F .f32) : sProp 𝕄 := xLoc d ↦[xCore c]{fullShare} f
/-- What a tile's copies read, by channel and half. -/
abbrev xTilePts (d : Dev nD) (L : grid0.Coords) (f : S30x76x64x128.Idx → F .f32) : sProp 𝕄 :=
  bigSep Finset.univ fun ch : Fin 10 => iprop(xPcs d L f ch 0 ∗ xPcs d L f ch 1)

omit [FloatOps F] in
theorem xPts_cores (d : Dev nD) (f : S30x76x64x128.Idx → F .f32) :
    (xLoc d ↦{fullShare} f : sProp 𝕄) = iprop(xCorePts d 0 f ∗ xCorePts d 1 f) := by
  refine (pts_parts (xLoc d) f Finset.univ xCore (fun y => ?_) fun i j y => ?_).trans (BI.bigSep_fin_two _)
  · exact ⟨fun _ => ⟨⟨(y 2).val % 2, Nat.mod_lt _ (by omega)⟩, Finset.mem_filter.mpr ⟨Finset.mem_univ _, rfl⟩⟩, fun _ => Finset.mem_univ _⟩
  · intro h₁ h₂
    exact Fin.ext ((Finset.mem_filter.mp h₁).2.symm.trans (Finset.mem_filter.mp h₂).2)

theorem xHalf_thirds (c : Fin 2) (i : Fin 16) (ch : Fin 10) (jb : Fin 2) (y : S30x76x64x128.Idx) :
    y ∈ xHalf c i ch jb ↔ ∃ a, y ∈ xThird c i ch jb a := by
  have hy : (y 0).val < 30 := (y 0).isLt
  simp only [xHalf, xThird, Finset.mem_filter, Finset.mem_univ, _root_.true_and]
  constructor
  · rintro ⟨h, h0⟩; exact ⟨⟨(y 0).val / 10, by omega⟩, h, by show _ = 10 * ((y 0).val / 10) + ch.val; omega⟩
  · rintro ⟨a, h, h0⟩; exact ⟨h, by omega⟩

theorem xThird_inj (c : Fin 2) (i : Fin 16) (ch : Fin 10) (jb : Fin 2) (a a' : Fin 3) (y : S30x76x64x128.Idx)
    (h₁ : y ∈ xThird c i ch jb a) (h₂ : y ∈ xThird c i ch jb a') : a = a' := by
  have e₁ := (Finset.mem_filter.mp h₁).2.2
  have e₂ := (Finset.mem_filter.mp h₂).2.2
  exact Fin.ext (by omega)

theorem xSet_sub (c : Fin 2) (i : Fin 16) (ch : Fin 10) (jb : Fin 2) (a : Fin 3) :
    xSet (tile c i) ch jb a ⊆ xThird c i ch jb a := fun y hy => by
  obtain ⟨h0, h2⟩ := mem_src _ _ _ _ y hy
  have e := congrArg Fin.val h2
  rw [lane_tile] at e
  exact Finset.mem_filter.mpr ⟨Finset.mem_univ _, e, by omega⟩

omit [FloatOps F] in
theorem xThird_piece (d : Dev nD) (c : Fin 2) (i : Fin 16) (ch : Fin 10) (jb : Fin 2) (f : S30x76x64x128.Idx → F .f32) (a : Fin 3) :
    (xLoc d ↦[xThird c i ch jb a]{fullShare} f : sProp 𝕄) ⊢ xLoc d ↦[xSet (tile c i) ch jb a]{fullShare} f := by
  have h := (pointsTo_split_subset (Name := ℕ) (U := UU) (Lvl := ℕ) (Ix := HIx 1) (Val := Elt F) (ℓ := xLoc d) (q := fullShare) (f := f) (S := xThird c i ch jb a) (I := xSet (tile c i) ch jb a)
    (xSet_sub c i ch jb a)).1
  iintro H
  ihave H := h $$ H
  icases H with ⟨H, -⟩
  iexact H

omit [FloatOps F] in
/-- A task's slices are among its places. -/
theorem xHalf_pieces (d : Dev nD) (c : Fin 2) (i : Fin 16) (ch : Fin 10) (jb : Fin 2) (f : S30x76x64x128.Idx → F .f32) :
    (xLoc d ↦[xHalf c i ch jb]{fullShare} f : sProp 𝕄) ⊢ xPcs d (tile c i) f ch jb := by
  refine (Entails.of_eq (pts_parts (xLoc d) f (xHalf c i ch jb) (xThird c i ch jb) (xHalf_thirds c i ch jb)
    (xThird_inj c i ch jb))).trans ?_
  rw [bigSep_univ_eq_bigSepL [0, 1, 2] (by decide) (by decide)]
  exact BI.sep_mono (xThird_piece d c i ch jb f 0) (BI.sep_mono (xThird_piece d c i ch jb f 1) (xThird_piece d c i ch jb f 2))

omit [FloatOps F] in
theorem xCore_tiles (d : Dev nD) (c : Fin 2) (f : S30x76x64x128.Idx → F .f32) :
    (xCorePts d c f : sProp 𝕄) ⊢ bigSep Finset.univ fun i : Fin 16 => xTilePts d (tile c i) f := by
  refine (Entails.of_eq (pts_parts (xLoc d) f (xCore c) (xTile c) (fun y => ?_) fun i j y => ?_)).trans (BI.bigSep_mono fun i _ => ?_)
  · simp only [xCore, xTile, Finset.mem_filter, Finset.mem_univ, _root_.true_and]
    constructor
    · intro h; exact ⟨⟨(y 2).val % 32 / 2, by omega⟩, by show _ = 2 * ((y 2).val % 32 / 2) + c.val; omega⟩
    · rintro ⟨i, h⟩; omega
  · simp only [xTile, Finset.mem_filter, Finset.mem_univ, _root_.true_and]
    intro h₁ h₂; exact Fin.ext (by omega)
  refine (Entails.of_eq (pts_parts (xLoc d) f (xTile c i) (xChan c i) (fun y => ?_) fun i j y => ?_)).trans (BI.bigSep_mono fun ch _ => ?_)
  · simp only [xTile, xChan, Finset.mem_filter, Finset.mem_univ, _root_.true_and]
    exact ⟨fun h => ⟨⟨(y 0).val % 10, Nat.mod_lt _ (by omega)⟩, h, rfl⟩, fun ⟨_, h, _⟩ => h⟩
  · simp only [xChan, Finset.mem_filter, Finset.mem_univ, _root_.true_and]
    intro h₁ h₂; exact Fin.ext (h₁.2.symm.trans h₂.2)
  refine (Entails.of_eq ((pts_parts (xLoc d) f (xChan c i ch) (xHalf c i ch) (fun y => ?_) fun i j y => ?_).trans
    (BI.bigSep_fin_two _))).trans (BI.sep_mono (xHalf_pieces d c i ch 0 f) (xHalf_pieces d c i ch 1 f))
  · have hy : (y 2).val < 64 := (y 2).isLt
    simp only [xChan, xHalf, Finset.mem_filter, Finset.mem_univ, _root_.true_and]
    constructor
    · rintro ⟨h, h0⟩; exact ⟨⟨(y 2).val / 32, by omega⟩, by show _ = 2 * i.val + c.val + 32 * ((y 2).val / 32); omega, h0⟩
    · rintro ⟨jb, h, h0⟩; exact ⟨by omega, h0⟩
  · simp only [xHalf, Finset.mem_filter, Finset.mem_univ, _root_.true_and]
    intro h₁ h₂; exact Fin.ext (by omega)

end Cert.KernelIdeal.Decode
-- ==== Proof.Windows.lean ====
/-
The printed body is the run of the tasks.

The program is printed in windows of about sixty statements; each window is the run of a few doings, by unfolding,
and the windows one after another are the list of the tasks.
-/
module

public import proofs.«01_k».proof.Proof.Program

@[expose] public section

set_option maxRecDepth 65536

noncomputable section

namespace Cert.KernelIdeal.Decode

open Idealize.ShloMosaic Idealize.SL.Sem Cert.KernelIdeal.Gen

variable {F : FTy → Type} [FloatOps F]

/-- A window of the program at the arrays the launch passes. -/
abbrev win {β : Type _} (f : (arg2 : Memref sig .scVector .hbm S30x76x64x128 .f32) → arg2.IsWhole →
    (arg3 : Memref sig .scVector .hbm S10x64x17328 .f32) → arg3.IsWhole →
    (arg4 : Memref sig .scVector .vmem S2x228x76 .f32) → arg4.IsWhole →
    (arg5 : Memref sig .scVector .vmem S17328 .f32) → arg5.IsWhole →
    (arg6 : Memref sig .scVector .vmem S17328 .f32) → arg6.IsWhole →
    DmaSems sig S_ → DmaSems sig S_ → DmaSems sig S_ → DmaSems sig S_ → β) : β :=
  f xV (Memref.isWhole_whole _) outV (Memref.isWhole_whole _) inV (Memref.isWhole_whole _)
    (Memref.whole cc0_scratch1) (Memref.isWhole_whole _) (Memref.whole cc0_scratch2) (Memref.isWhole_whole _)
    cc0_scratch3 cc0_scratch4 cc0_scratch5 cc0_scratch6

/-! ## The windows -/

variable (i : grid0.Coords)

theorem w33 : win (k0_part33 (F := F) i) =
    run i [.fire 0 0 0, .fire 0 0 1] >>= fun _ => pure ⟨tileW i, k0_pay106⟩ := rfl
theorem w34 (v1 : BitVec 32) : win (k0_part34 (F := F) i) v1 =
    run i [.fire 0 0 2, .wait 0 0 0, .wait 0 0 1] := rfl
theorem w35 (v1 : BitVec 32) : win (k0_part35 (F := F) i) v1 =
    run i [.wait 0 0 2, .fire 0 1 0, .fire 0 1 1] := rfl
theorem w36 (v1 : BitVec 32) : win (k0_part36 (F := F) i) v1 k0_pay106 =
    run i [.fire 0 1 2, .loop 0 0, .ofire 0 0, .wait 0 1 0, .wait 0 1 1] := rfl
theorem w37 (v1 : BitVec 32) : win (k0_part37 (F := F) i) v1 =
    run i [.wait 0 1 2, .fire 1 0 0, .fire 1 0 1] := rfl
theorem w38 (v1 : BitVec 32) : win (k0_part38 (F := F) i) v1 k0_pay106 =
    run i [.fire 1 0 2, .loop 0 1, .ofire 0 1, .wait 1 0 0] := rfl
theorem w39 (v1 : BitVec 32) : win (k0_part39 (F := F) i) v1 =
    run i [.wait 1 0 1, .wait 1 0 2, .fire 1 1 0] := rfl
theorem w40 (v1 : BitVec 32) : win (k0_part40 (F := F) i) v1 =
    run i [.fire 1 1 1, .fire 1 1 2, .owait 0 0, .loop 1 0, .ofire 1 0] := rfl
theorem w41 (v1 : BitVec 32) : win (k0_part41 (F := F) i) v1 =
    run i [.wait 1 1 0, .wait 1 1 1, .wait 1 1 2] := rfl
theorem w42 : win (k0_part42 (F := F) i) =
    run i [.fire 2 0 0, .fire 2 0 1, .fire 2 0 2, .owait 0 1] >>= fun _ => pure ⟨0#32, 1#32⟩ := rfl
theorem w43 (v1 : BitVec 32) : win (k0_part43 (F := F) i) v1 0#32 1#32 =
    run i [.loop 1 1, .ofire 1 1, .wait 2 0 0, .wait 2 0 1] := rfl
theorem w44 (v1 : BitVec 32) : win (k0_part44 (F := F) i) v1 =
    run i [.wait 2 0 2, .fire 2 1 0, .fire 2 1 1] := rfl
theorem w45 (v1 : BitVec 32) : win (k0_part45 (F := F) i) v1 =
    run i [.fire 2 1 2, .owait 1 0, .loop 2 0, .ofire 2 0, .wait 2 1 0] := rfl
theorem w46 (v1 : BitVec 32) : win (k0_part46 (F := F) i) v1 =
    run i [.wait 2 1 1, .wait 2 1 2, .fire 3 0 0] := rfl
theorem w47 (v1 : BitVec 32) : win (k0_part47 (F := F) i) v1 =
    run i [.fire 3 0 1, .fire 3 0 2, .owait 1 1, .loop 2 1, .ofire 2 1] := rfl
theorem w48 (v1 : BitVec 32) : win (k0_part48 (F := F) i) v1 =
    run i [.wait 3 0 0, .wait 3 0 1, .wait 3 0 2] := rfl
theorem w49 : win (k0_part49 (F := F) i) =
    run i [.fire 3 1 0, .fire 3 1 1, .fire 3 1 2, .owait 2 0] >>= fun _ => pure ⟨0#32, 1#32⟩ := rfl
theorem w50 (v1 : BitVec 32) : win (k0_part50 (F := F) i) v1 0#32 1#32 =
    run i [.loop 3 0, .ofire 3 0, .wait 3 1 0, .wait 3 1 1] := rfl
theorem w51 (v1 : BitVec 32) : win (k0_part51 (F := F) i) v1 =
    run i [.wait 3 1 2, .fire 4 0 0, .fire 4 0 1] := rfl
theorem w52 (v1 : BitVec 32) : win (k0_part52 (F := F) i) v1 =
    run i [.fire 4 0 2, .owait 2 1, .loop 3 1, .ofire 3 1, .wait 4 0 0] := rfl
theorem w53 (v1 : BitVec 32) : win (k0_part53 (F := F) i) v1 =
    run i [.wait 4 0 1, .wait 4 0 2, .fire 4 1 0] := rfl
theorem w54 (v1 : BitVec 32) : win (k0_part54 (F := F) i) v1 =
    run i [.fire 4 1 1, .fire 4 1 2, .owait 3 0, .loop 4 0, .ofire 4 0] := rfl
theorem w55 (v1 : BitVec 32) : win (k0_part55 (F := F) i) v1 =
    run i [.wait 4 1 0, .wait 4 1 1, .wait 4 1 2] := rfl
theorem w56 : win (k0_part56 (F := F) i) =
    run i [.fire 5 0 0, .fire 5 0 1, .fire 5 0 2, .owait 3 1] >>= fun _ => pure ⟨0#32, 1#32⟩ := rfl
theorem w57 (v1 : BitVec 32) : win (k0_part57 (F := F) i) v1 0#32 1#32 =
    run i [.loop 4 1, .ofire 4 1, .wait 5 0 0, .wait 5 0 1] := rfl
theorem w58 (v1 : BitVec 32) : win (k0_part58 (F := F) i) v1 =
    run i [.wait 5 0 2, .fire 5 1 0, .fire 5 1 1] := rfl
theorem w59 (v1 : BitVec 32) : win (k0_part59 (F := F) i) v1 =
    run i [.fire 5 1 2, .owait 4 0, .loop 5 0, .ofire 5 0, .wait 5 1 0] := rfl
theorem w60 (v1 : BitVec 32) : win (k0_part60 (F := F) i) v1 =
    run i [.wait 5 1 1, .wait 5 1 2, .fire 6 0 0] := rfl
theorem w61 (v1 : BitVec 32) : win (k0_part61 (F := F) i) v1 =
    run i [.fire 6 0 1, .fire 6 0 2, .owait 4 1, .loop 5 1, .ofire 5 1] := rfl
theorem w62 (v1 : BitVec 32) : win (k0_part62 (F := F) i) v1 =
    run i [.wait 6 0 0, .wait 6 0 1, .wait 6 0 2] := rfl
theorem w63 : win (k0_part63 (F := F) i) =
    run i [.fire 6 1 0, .fire 6 1 1, .fire 6 1 2, .owait 5 0] >>= fun _ => pure ⟨0#32, 1#32⟩ := rfl
theorem w64 (v1 : BitVec 32) : win (k0_part64 (F := F) i) v1 0#32 1#32 =
    run i [.loop 6 0, .ofire 6 0, .wait 6 1 0, .wait 6 1 1] := rfl
theorem w65 (v1 : BitVec 32) : win (k0_part65 (F := F) i) v1 =
    run i [.wait 6 1 2, .fire 7 0 0, .fire 7 0 1] := rfl
theorem w66 (v1 : BitVec 32) : win (k0_part66 (F := F) i) v1 =
    run i [.fire 7 0 2, .owait 5 1, .loop 6 1, .ofire 6 1, .wait 7 0 0] := rfl
theorem w67 (v1 : BitVec 32) : win (k0_part67 (F := F) i) v1 =
    run i [.wait 7 0 1, .wait 7 0 2, .fire 7 1 0] := rfl
theorem w68 (v1 : BitVec 32) : win (k0_part68 (F := F) i) v1 =
    run i [.fire 7 1 1, .fire 7 1 2, .owait 6 0, .loop 7 0, .ofire 7 0] := rfl
theorem w69 (v1 : BitVec 32) : win (k0_part69 (F := F) i) v1 =
    run i [.wait 7 1 0, .wait 7 1 1, .wait 7 1 2] := rfl
theorem w70 : win (k0_part70 (F := F) i) =
    run i [.fire 8 0 0, .fire 8 0 1, .fire 8 0 2, .owait 6 1] >>= fun _ => pure ⟨0#32, 1#32⟩ := rfl
theorem w71 (v1 : BitVec 32) : win (k0_part71 (F := F) i) v1 0#32 1#32 =
    run i [.loop 7 1, .ofire 7 1, .wait 8 0 0, .wait 8 0 1] := rfl
theorem w72 (v1 : BitVec 32) : win (k0_part72 (F := F) i) v1 =
    run i [.wait 8 0 2, .fire 8 1 0, .fire 8 1 1] := rfl
theorem w73 (v1 : BitVec 32) : win (k0_part73 (F := F) i) v1 =
    run i [.fire 8 1 2, .owait 7 0, .loop 8 0, .ofire 8 0, .wait 8 1 0] := rfl
theorem w74 (v1 : BitVec 32) : win (k0_part74 (F := F) i) v1 =
    run i [.wait 8 1 1, .wait 8 1 2, .fire 9 0 0] := rfl
theorem w75 (v1 : BitVec 32) : win (k0_part75 (F := F) i) v1 =
    run i [.fire 9 0 1, .fire 9 0 2, .owait 7 1, .loop 8 1, .ofire 8 1] := rfl
theorem w76 (v1 : BitVec 32) : win (k0_part76 (F := F) i) v1 =
    run i [.wait 9 0 0, .wait 9 0 1, .wait 9 0 2] := rfl
theorem w77 : win (k0_part77 (F := F) i) =
    run i [.fire 9 1 0, .fire 9 1 1, .fire 9 1 2, .owait 8 0] >>= fun _ => pure ⟨0#32, 1#32⟩ := rfl
theorem w78 (v1 : BitVec 32) : win (k0_part78 (F := F) i) v1 0#32 1#32 =
    run i [.loop 9 0, .ofire 9 0, .wait 9 1 0, .wait 9 1 1] := rfl

/-- The printed body is the run of the tasks. -/
theorem body_eq : win (cc0__decode_body (F := F) i) = run i (fires 0 0 ++ tasks 10 0 rfl) := by
  have hl : fires 0 0 ++ tasks 10 0 rfl = [Ins.fire 0 0 0, .fire 0 0 1] ++
  ([.fire 0 0 2, .wait 0 0 0, .wait 0 0 1] ++
  ([.wait 0 0 2, .fire 0 1 0, .fire 0 1 1] ++
  ([.fire 0 1 2, .loop 0 0, .ofire 0 0, .wait 0 1 0, .wait 0 1 1] ++
  ([.wait 0 1 2, .fire 1 0 0, .fire 1 0 1] ++
  ([.fire 1 0 2, .loop 0 1, .ofire 0 1, .wait 1 0 0] ++
  ([.wait 1 0 1, .wait 1 0 2, .fire 1 1 0] ++
  ([.fire 1 1 1, .fire 1 1 2, .owait 0 0, .loop 1 0, .ofire 1 0] ++
  ([.wait 1 1 0, .wait 1 1 1, .wait 1 1 2] ++
  ([.fire 2 0 0, .fire 2 0 1, .fire 2 0 2, .owait 0 1] ++
  ([.loop 1 1, .ofire 1 1, .wait 2 0 0, .wait 2 0 1] ++
  ([.wait 2 0 2, .fire 2 1 0, .fire 2 1 1] ++
  ([.fire 2 1 2, .owait 1 0, .loop 2 0, .ofire 2 0, .wait 2 1 0] ++
  ([.wait 2 1 1, .wait 2 1 2, .fire 3 0 0] ++
  ([.fire 3 0 1, .fire 3 0 2, .owait 1 1, .loop 2 1, .ofire 2 1] ++
  ([.wait 3 0 0, .wait 3 0 1, .wait 3 0 2] ++
  ([.fire 3 1 0, .fire 3 1 1, .fire 3 1 2, .owait 2 0] ++
  ([.loop 3 0, .ofire 3 0, .wait 3 1 0, .wait 3 1 1] ++
  ([.wait 3 1 2, .fire 4 0 0, .fire 4 0 1] ++
  ([.fire 4 0 2, .owait 2 1, .loop 3 1, .ofire 3 1, .wait 4 0 0] ++
  ([.wait 4 0 1, .wait 4 0 2, .fire 4 1 0] ++
  ([.fire 4 1 1, .fire 4 1 2, .owait 3 0, .loop 4 0, .ofire 4 0] ++
  ([.wait 4 1 0, .wait 4 1 1, .wait 4 1 2] ++
  ([.fire 5 0 0, .fire 5 0 1, .fire 5 0 2, .owait 3 1] ++
  ([.loop 4 1, .ofire 4 1, .wait 5 0 0, .wait 5 0 1] ++
  ([.wait 5 0 2, .fire 5 1 0, .fire 5 1 1] ++
  ([.fire 5 1 2, .owait 4 0, .loop 5 0, .ofire 5 0, .wait 5 1 0] ++
  ([.wait 5 1 1, .wait 5 1 2, .fire 6 0 0] ++
  ([.fire 6 0 1, .fire 6 0 2, .owait 4 1, .loop 5 1, .ofire 5 1] ++
  ([.wait 6 0 0, .wait 6 0 1, .wait 6 0 2] ++
  ([.fire 6 1 0, .fire 6 1 1, .fire 6 1 2, .owait 5 0] ++
  ([.loop 6 0, .ofire 6 0, .wait 6 1 0, .wait 6 1 1] ++
  ([.wait 6 1 2, .fire 7 0 0, .fire 7 0 1] ++
  ([.fire 7 0 2, .owait 5 1, .loop 6 1, .ofire 6 1, .wait 7 0 0] ++
  ([.wait 7 0 1, .wait 7 0 2, .fire 7 1 0] ++
  ([.fire 7 1 1, .fire 7 1 2, .owait 6 0, .loop 7 0, .ofire 7 0] ++
  ([.wait 7 1 0, .wait 7 1 1, .wait 7 1 2] ++
  ([.fire 8 0 0, .fire 8 0 1, .fire 8 0 2, .owait 6 1] ++
  ([.loop 7 1, .ofire 7 1, .wait 8 0 0, .wait 8 0 1] ++
  ([.wait 8 0 2, .fire 8 1 0, .fire 8 1 1] ++
  ([.fire 8 1 2, .owait 7 0, .loop 8 0, .ofire 8 0, .wait 8 1 0] ++
  ([.wait 8 1 1, .wait 8 1 2, .fire 9 0 0] ++
  ([.fire 9 0 1, .fire 9 0 2, .owait 7 1, .loop 8 1, .ofire 8 1] ++
  ([.wait 9 0 0, .wait 9 0 1, .wait 9 0 2] ++
  ([.fire 9 1 0, .fire 9 1 1, .fire 9 1 2, .owait 8 0] ++
  ([.loop 9 0, .ofire 9 0, .wait 9 1 0, .wait 9 1 1] ++
  [.wait 9 1 2, .owait 8 1, .loop 9 1, .ofire 9 1, .owait 9 0, .owait 9 1]))))))))))))))))))))))))))))))))))))))))))))) := rfl
  rw [hl]
  unfold win cc0__decode_body k0_part79
  dsimp only
  simp only [run_append, w33, w34, w35, w36, w37, w38, w39, w40, w41, w42, w43, w44, w45, w46, w47, w48, w49, w50, w51, w52, w53, w54, w55, w56, w57, w58, w59, w60, w61, w62, w63, w64, w65, w66, w67, w68, w69, w70, w71, w72, w73, w74, w75, w76, w77, w78, bind_assoc, pure_bind]
  rfl

end Cert.KernelIdeal.Decode
-- ==== Proof.Tile.lean ====
/-
The program on one tile, from what the launch gives it to what it hands back.
-/
module

public import proofs.«01_k».proof.Proof.Task
public import proofs.«01_k».proof.Proof.Deal
public import proofs.«01_k».proof.Proof.Windows

@[expose] public section

noncomputable section

namespace Cert.KernelIdeal.Decode

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The tile's own semaphores and buffers -/

abbrev semRest : Finset (GSem nD τ sig) :=
  ((((ownCells (thr d L)).erase (siCell d L 0)).erase (siCell d L 1)).erase (soCell d L 0)).erase (soCell d L 1)

omit [FloatOps F] in
theorem ownSems0_V :
    (ownSems0 (thr d L) : sProp 𝕄)
      = iprop(semVal (siCell d L 0) 0 ∗ semVal (siCell d L 1) 0 ∗ semVal (soCell d L 0) 0 ∗ semVal (soCell d L 1) 0
          ∗ bigSep (semRest d L) fun g => semVal g 0) := by
  have hne : ∀ {a b : SemLoc sig}, a ≠ b → ((thr d L, a) : GSem nD τ sig) ≠ (thr d L, b) := fun h e => h (Prod.mk.inj e).2
  have h0 : siCell d L 0 ∈ ownCells (thr d L) := mem_ownCells.mpr ⟨rfl, show (SemLoc.dma (siS 0).sem : SemLoc sig).isScoped .scVector = true by decide⟩
  have h1 : siCell d L 1 ∈ ownCells (thr d L) := mem_ownCells.mpr ⟨rfl, show (SemLoc.dma (siS 1).sem : SemLoc sig).isScoped .scVector = true by decide⟩
  have h2 : soCell d L 0 ∈ ownCells (thr d L) := mem_ownCells.mpr ⟨rfl, show (SemLoc.dma (soS 0).sem : SemLoc sig).isScoped .scVector = true by decide⟩
  have h3 : soCell d L 1 ∈ ownCells (thr d L) := mem_ownCells.mpr ⟨rfl, show (SemLoc.dma (soS 1).sem : SemLoc sig).isScoped .scVector = true by decide⟩
  unfold SparseCore.Cfg.ownSems0
  rw [SparseCore.bigSep_erase' h0,
    SparseCore.bigSep_erase' (Finset.mem_erase.mpr ⟨hne (by decide), h1⟩),
    SparseCore.bigSep_erase' (Finset.mem_erase.mpr ⟨hne (by decide), Finset.mem_erase.mpr ⟨hne (by decide), h2⟩⟩),
    SparseCore.bigSep_erase' (Finset.mem_erase.mpr ⟨hne (by decide), Finset.mem_erase.mpr ⟨hne (by decide),
      Finset.mem_erase.mpr ⟨hne (by decide), h3⟩⟩⟩)]

/-- The tile's own name for a buffer of its. -/
abbrev own (b : Ref sig .scVector) : DevRef τ sig := (Proc.scVector (cV L) (jV L)).devRef b

abbrev bufRest : Finset (DevRef τ sig) :=
  (((ownRefs (τ := τ) (.scVector (cV L) (jV L))).erase (own L cc0_scratch0)).erase (own L cc0_scratch1)).erase (own L cc0_scratch2)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (bufRest L) fun b => iprop(∃ f, ((d, b) : Loc nD τ sig) ↦{fullShare} f)) := by
  have hne : ∀ {a b : Ref sig .scVector}, a ≠ b → own L a ≠ own L b := fun h e => h (Proc.devRef_injective _ e)
  have h0 : own L cc0_scratch0 ∈ ownRefs (τ := τ) (.scVector (cV L) (jV L)) :=
    SparseCore.Cfg.mem_ownRefs_of_owner (p := Proc.scVector (cV L) (jV L)) rfl
  have h1 : own L cc0_scratch1 ∈ ownRefs (τ := τ) (.scVector (cV L) (jV L)) :=
    SparseCore.Cfg.mem_ownRefs_of_owner (p := Proc.scVector (cV L) (jV L)) rfl
  have h2 : own L cc0_scratch2 ∈ ownRefs (τ := τ) (.scVector (cV L) (jV L)) :=
    SparseCore.Cfg.mem_ownRefs_of_owner (p := Proc.scVector (cV L) (jV L)) rfl
  unfold SparseCore.Cfg.ownBufs
  refine (SparseCore.bigSep_erase' h0).trans ?_
  rw [SparseCore.bigSep_erase' (Finset.mem_erase.mpr ⟨hne (show cc0_scratch1 ≠ cc0_scratch0 by decide), h1⟩),
    SparseCore.bigSep_erase' (Finset.mem_erase.mpr ⟨hne (show cc0_scratch2 ≠ cc0_scratch1 by decide),
      Finset.mem_erase.mpr ⟨hne (show cc0_scratch2 ≠ cc0_scratch0 by decide), h2⟩⟩)]

omit [FloatOps F] in
/-- The input buffer is its two halves. -/
theorem inPts_halves (f : S2x228x76.Idx → F .f32) :
    ((thr d L).loc cc0_scratch0 ↦{fullShare} f : sProp 𝕄) = iprop(inPts d L 0 f ∗ inPts d L 1 f) := by
  refine (pts_parts ((thr d L).loc cc0_scratch0) f Finset.univ inHalf (fun y => ?_) fun i j y h₁ h₂ => ?_).trans (BI.bigSep_fin_two _)
  · exact ⟨fun _ => ⟨y 0, Finset.mem_filter.mpr ⟨Finset.mem_univ _, rfl⟩⟩, fun _ => Finset.mem_univ _⟩
  · exact Fin.ext ((Finset.mem_filter.mp h₁).2.symm.trans (Finset.mem_filter.mp h₂).2)

omit [FloatOps F] in
/-- The halves, each at contents of its own, are the buffer at some contents. -/
theorem inPts_join (f g : S2x228x76.Idx → F .f32) :
    iprop(inPts d L 0 f ∗ inPts d L 1 g) ⊢ (iprop(∃ h, (thr d L).loc cc0_scratch0 ↦{fullShare} h) : sProp 𝕄) := by
  have e0 : (inPts d L 0 f : sProp 𝕄) = inPts d L 0 fun y => if (y 0).val = 0 then f y else g y :=
    pointsTo_congr fun y hy => (if_pos (Finset.mem_filter.mp hy).2).symm
  have e1 : (inPts d L 1 g : sProp 𝕄) = inPts d L 1 fun y => if (y 0).val = 0 then f y else g y :=
    pointsTo_congr fun y hy => (if_neg (by rw [(Finset.mem_filter.mp hy).2]; decide)).symm
  rw [e0, e1, ← inPts_halves]
  iintro H
  iexists _
  iexact H

/-! ## The tile -/

/-- The kernel's text on a tile. -/
abbrev tileProg : Prog (Eff F L) PUnit :=
  cc0__decode_body L (Memref.whole main_v1_scv) (Memref.isWhole_whole _) (Memref.whole main_v2_scv) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6

theorem tileProg_eq : tileProg (F := F) L = run L (fires 0 0 ++ tasks 10 0 rfl) := body_eq L

/-- The tile's slices of the result, at contents no longer named. -/
theorem oTile_some (fo : S10x64x17328.Idx → F .f32) :
    (oTilePts d L fo : sProp 𝕄) ⊢ bigSep Finset.univ fun ch : Fin 10 => iprop((∃ fo, oPc d L ch 0 fo) ∗ ∃ fo, oPc d L ch 1 fo) := by
  refine BI.bigSep_mono fun ch _ => ?_
  show iprop(oPc d L ch 0 fo ∗ oPc d L ch 1 fo) ⊢ (iprop((∃ fo, oPc d L ch 0 fo) ∗ ∃ fo, oPc d L ch 1 fo) : sProp 𝕄)
  iintro ⟨H0, H1⟩
  isplitl [H0]
  · iexists fo; iexact H0
  · iexists fo; iexact H1

theorem tile_body (fx : S30x76x64x128.Idx → F .f32) (fo : S10x64x17328.Idx → F .f32)
    (O : CellTallies nD τ sig (HIx 1)) (W : Waits sig (HIx 1)) (hO : ∀ g, O g none = 0) :
    iprop(levAts (K (F := F)).L (K (F := F)).lev ∗ emp
        ∗ (xTilePts d L fx ∗ oTilePts d L fo)
        ∗ scopedBufs (thr d L) ∗ scopedSems0 (thr d L) ∗ owes (thr d L) O W)
      ⊢ wp frame (wpE (defs₀ (F := F)) 𝒱₀ (thr d L) none) Set.univ (tileProg (F := F) L)
          fun _ => iprop(oTilePts d L (decArr fx)
            ∗ scopedBufs (thr d L) ∗ scopedSems0 (thr d L) ∗ ∃ W', ⌜∀ p ∈ W', p ∈ W ∨ p.2 = none⌝ ∗ owes (thr d L) O W') := by
  rw [tileProg_eq, (K (F := F)).scopedBufs_V facts d (cV L) (jV L), SparseCore.Cfg.scopedSems0_V (Val := Elt F) d (cV L) (jV L),
    ownSems0_V, ownBufs_V]
  iintro ⟨#Hlv, -, ⟨Hx, Ho⟩, ⟨⟨%f0, Hb0⟩, Hb1, Hb2, Hbufs⟩, ⟨Hs0, Hs1, Ht0, Ht1, Hsems⟩, HO⟩
  ihave #Hmw := (show levAts (K (F := F)).L (K (F := F)).lev ⊢ Transfers.MayWaits (thr d L) (default : HIx 1) O from
    (K (F := F)).mayWaits_none (thr := thr d L) hO) $$ Hlv
  ihave Hb0 := (Entails.of_eq (inPts_halves d L f0)) $$ Hb0
  icases Hb0 with ⟨Hi0, Hi1⟩
  ihave Hx := (Entails.of_eq (chans_all (xPcs d L fx)).symm) $$ Hx
  iapply (wp_then d L (wp_all d L O W fx)) $$ [Hx Ho Hi0 Hi1 Hb1 Hb2 Hs0 Hs1 Ht0 Ht1 HO]
  · isplitr; · iexact Hmw
    isplitl [Hx]; · iexact Hx
    isplitl [Ho]
    · rw [chans_all (fun c jb => iprop(∃ fo, oPc d L c jb fo))]
      iapply (oTile_some d L fo); iexact Ho
    isplitl [Hi0 Hs0]
    · isplitl [Hi0]; · iexists f0; iexact Hi0
      iexact Hs0
    isplitl [Hi1 Hs1]
    · isplitl [Hi1]; · iexists f0; iexact Hi1
      iexact Hs1
    isplitl [Hb1 Ht0]
    · isplitl [Hb1]; · iexact Hb1
      iexact Ht0
    isplitl [Hb2 Ht1]
    · isplitl [Hb2]; · iexact Hb2
      iexact Ht1
    iexists W
    isplitr; · ipureintro; exact fun p hp => .inl hp
    iexact HO
  iintro ⟨Hd, ⟨⟨%g0, Hi0⟩, Hs0⟩, ⟨⟨%g1, Hi1⟩, Hs1⟩, ⟨Hb1, Ht0⟩, ⟨Hb2, Ht1⟩, HO⟩
  isplitl [Hd]
  · iapply (Entails.of_eq (chans_all (fun c jb => oPc d L c jb (decArr fx)))); iexact Hd
  isplitl [Hi0 Hi1 Hb1 Hb2 Hbufs]
  · isplitl [Hi0 Hi1]
    · iapply (inPts_join d L g0 g1)
      isplitl [Hi0]; · iexact Hi0
      iexact Hi1
    isplitl [Hb1]; · iexact Hb1
    isplitl [Hb2]; · iexact Hb2
    iexact Hbufs
  isplitl [Hs0 Hs1 Ht0 Ht1 Hsems]
  · isplitl [Hs0]; · iexact Hs0
    isplitl [Hs1]; · iexact Hs1
    isplitl [Ht0]; · iexact Ht0
    isplitl [Ht1]; · iexact Ht1
    iexact Hsems
  iexact HO

end Cert.KernelIdeal.Decode
-- ==== Proof.Launch.lean ====
/-
The program's run: the host's lines, the launch over the tiles, and what its memory holds at the end.
-/
module

public import proofs.«01_k».proof.Proof.Tile

@[expose] public section

noncomputable section

namespace Cert.KernelIdeal.Decode

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

/-! ## What the host computes -/

/-- The program's input, laid out and padded for the kernel. -/
def padded (a : S64x30x76x76.Idx → F .f32) : S30x76x64x128.Idx → F .f32 :=
  pad S30x76x64x128 ![0, 0, 0, 0] ![0, 0, 0, 52] ![0, 0, 0, 0]
    (transpose S30x76x64x76 [1, 2, 0, 3] a transposes_S64x30x76x76_S30x76x64x76_1_2_0_3)
    (sitofp .f32 (constantI S_ 32 0#32)) pads_S30x76x64x76_S30x76x64x128_000_000_000_0520 h_S_

/-- The program's result. -/
def result (a : S64x30x76x76.Idx → F .f32) : S64x17328x10.Idx → F .f32 :=
  transpose S64x17328x10 [1, 2, 0] (decArr (padded a)) transposes_S10x64x17328_S64x17328x10_1_2_0

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v3

abbrev fxOf (d : Dev nD) : S30x76x64x128.Idx → F .f32 := padded (m (aLoc d))
abbrev foOf (d : Dev nD) : S10x64x17328.Idx → F .f32 := m (oLoc d)

/-! ## What the handshakes carry -/

abbrev coreOf (c : Fin ((K (F := F)).nCore 0)) : Fin 2 := Fin.cast nCore_zero c
abbrev subOf (i : Fin ((K (F := F)).nSub 0)) : Fin 16 := Fin.cast nSub_zero i

/-- A core takes its parts of the padded input and of the result, a tile its slices; the result comes back. -/
def P : (K (F := F)).Pay (nD := nD) (Val := Elt F) (Name := ℕ) (U := UU) where
  st := fun q d c => match q with | 0 => iprop(xCorePts d (coreOf (F := F) c) (fxOf m d) ∗ oCorePts d (coreOf (F := F) c) (foOf m d))
  dn := fun q d c => match q with | 0 => oCorePts d (coreOf (F := F) c) (decArr (fxOf m d))
  go := fun q d c i => match q with
    | 0 => iprop(xTilePts d (tile (coreOf (F := F) c) (subOf (F := F) i)) (fxOf m d) ∗ oTilePts d (tile (coreOf (F := F) c) (subOf (F := F) i)) (foOf m d))
  td := fun q d c i => match q with | 0 => oTilePts d (tile (coreOf (F := F) c) (subOf (F := F) i)) (decArr (fxOf m d))
  x := fun _ _ => iprop(emp)

instance P_storable : (P (F := F) m).IsStorable where
  st q d c := match q with
    | 0 => (inferInstance : BI.Storable (upEmb : UEmb _ 𝕄) iprop(xCorePts d (coreOf (F := F) c) (fxOf m d) ∗ oCorePts d (coreOf (F := F) c) (foOf m d)))
  dn q d c := match q with
    | 0 => (inferInstance : BI.Storable (upEmb : UEmb _ 𝕄) (oCorePts d (coreOf (F := F) c) (decArr (fxOf m d))))
  go q d c i := match q with
    | 0 => (inferInstance : BI.Storable (upEmb : UEmb _ 𝕄)
      iprop(xTilePts d (tile (coreOf (F := F) c) (subOf (F := F) i)) (fxOf m d) ∗ oTilePts d (tile (coreOf (F := F) c) (subOf (F := F) i)) (foOf m d)))
  td q d c i := match q with
    | 0 => (inferInstance : BI.Storable (upEmb : UEmb _ 𝕄) (oTilePts d (tile (coreOf (F := F) c) (subOf (F := F) i)) (decArr (fxOf m d))))

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fxOf m d) (foOf m d) O W hO).trans (wp_mono frame _ _ fun _ => obl_post)

/-! ## The cores' parts to the tiles and back -/

omit [FloatOps F] in
theorem bigSep_subs (Φ : Fin 16 → sProp 𝕄) :
    (bigSep Finset.univ fun i : Fin ((K (F := F)).nSub 0) => Φ (subOf (F := F) i)) = bigSep Finset.univ Φ :=
  bigSep_congr fun _ _ => congrArg Φ (Fin.ext rfl)

theorem vecSplit : (K (F := F)).VecSplit' (P m) 0 := by
  intro d c
  show iprop(xCorePts d (coreOf (F := F) c) (fxOf m d) ∗ oCorePts d (coreOf (F := F) c) (foOf m d)) ⊢ |={Set.univ}=> iprop(
      (bigSep Finset.univ fun i : Fin ((K (F := F)).nSub 0) =>
        iprop(xTilePts d (tile (coreOf (F := F) c) (subOf (F := F) i)) (fxOf m d) ∗ oTilePts d (tile (coreOf (F := F) c) (subOf (F := F) i)) (foOf m d)))
      ∗ ((bigSep Finset.univ fun i : Fin ((K (F := F)).nSub 0) =>
          oTilePts d (tile (coreOf (F := F) c) (subOf (F := F) i)) (decArr (fxOf m d)))
          -∗ oCorePts d (coreOf (F := F) c) (decArr (fxOf m d))))
  rw [bigSep_subs (F := F) (fun i => iprop(xTilePts d (tile (coreOf (F := F) c) i) (fxOf m d) ∗ oTilePts d (tile (coreOf (F := F) c) i) (foOf m d))),
    bigSep_subs (F := F) (fun i => oTilePts d (tile (coreOf (F := F) c) i) (decArr (fxOf m d))), bigSep_sep',
    oCore_tiles d _ (foOf m d), oCore_tiles d _ (decArr (fxOf m d))]
  iintro ⟨Hx, Ho⟩
  imodintro
  isplitl [Hx Ho]
  · isplitl [Hx]
    · iapply (xCore_tiles d (coreOf (F := F) c) (fxOf m d)); iexact Hx
    iexact Ho
  iintro H
  iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's lines -/

abbrev a' : DevRef τ sig := Proc.devRef .tc (main_arg0 : Ref sig .tc)
abbrev t' : DevRef τ sig := Proc.devRef .tc (main_v0 : Ref sig .tc)
abbrev c' : DevRef τ sig := Proc.devRef .tc (main_c : Ref sig .tc)
abbrev z' : DevRef τ sig := Proc.devRef .tc (main_call0_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opT : HloOp τ sig (Elt F) := StableHlo.unary main_arg0 main_v0
  ((transpose S30x76x64x76 [1, 2, 0, 3] · transposes_S64x30x76x76_S30x76x64x76_1_2_0_3) : (⟨S64x30x76x76, .f32⟩ : BufTy).Contents (Elt F) → (⟨S30x76x64x76, .f32⟩ : BufTy).Contents (Elt F))
abbrev opC : HloOp τ sig (Elt F) := StableHlo.nullary main_c (constantI S_ 32 0#32)
abbrev opZ : HloOp τ sig (Elt F) := StableHlo.TRef.unary (.of main_c) main_call0.v0 (sitofp .f32)
abbrev opP : HloOp τ sig (Elt F) := StableHlo.TRef.binary (.of main_v0 : StableHlo.TRef sig ⟨S30x76x64x76, .f32⟩) main_call0.v0 main_call0.v1
  (fun x v => pad S30x76x64x128 ![0, 0, 0, 0] ![0, 0, 0, 52] ![0, 0, 0, 0] x v pads_S30x76x64x76_S30x76x64x128_000_000_000_0520 h_S_)
abbrev opR : HloOp τ sig (Elt F) := StableHlo.unary main_v2 main_v3
  ((transpose S64x17328x10 [1, 2, 0] · transposes_S10x64x17328_S64x17328x10_1_2_0) : (⟨S10x64x17328, .f32⟩ : BufTy).Contents (Elt F) → (⟨S64x17328x10, .f32⟩ : BufTy).Contents (Elt F))

/-- The host's arrays, and those its last line touches. -/
abbrev S7 : Finset (DevRef τ sig) := {a', t', c', z', x', o', r'}
abbrev S2 : Finset (DevRef τ sig) := {o', r'}

omit [FloatOps F] in
theorem held_S7 (d : Dev nD) (W : Valuation τ sig (Elt F)) :
    (held (SparseCore.T d) S7 W : sProp 𝕄)
      = iprop((aLoc d ↦{fullShare} W a') ∗ ((SparseCore.T d).loc main_v0 ↦{fullShare} W t') ∗ ((SparseCore.T d).loc main_c ↦{fullShare} W c')
          ∗ ((SparseCore.T d).loc main_call0_v0 ↦{fullShare} W z') ∗ (xLoc d ↦{fullShare} W x') ∗ (oLoc d ↦{fullShare} W o') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S2 (d : Dev nD) (W : Valuation τ sig (Elt F)) :
    (held (SparseCore.T d) S2 W : sProp 𝕄) = iprop((oLoc d ↦{fullShare} W o') ∗ rLoc d ↦{fullShare} W r') := by
  unfold held S2
  rw [SparseCore.bigSep_insert' (by decide), bigSep_singleton]

omit [FloatOps F] in
theorem unscoped_held (d : Dev nD) :
    (unscopedBufs d (fun b => m ((SparseCore.T d).loc b)) : sProp 𝕄) = held (SparseCore.T d) S7 (fun b => m (d, b)) := by
  rw [held_S7]
  unfold unscopedBufs
  rw [show (Finset.univ.filter fun b : Ref sig .tc => ¬ b.isScoped) = {main_arg0, main_v0, main_c, main_call0_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the start, and after each of the lines before the call. -/
def V0 (d : Dev nD) : Valuation τ sig (Elt F) := fun b => m (d, b)
def V1 (d : Dev nD) : Valuation τ sig (Elt F) := (opT (F := F)).result (V0 m d)
def V2 (d : Dev nD) : Valuation τ sig (Elt F) := (opC (F := F)).result (V1 m d)
def V3 (d : Dev nD) : Valuation τ sig (Elt F) := (opZ (F := F)).result (V2 m d)
def V4 (d : Dev nD) : Valuation τ sig (Elt F) := (opP (F := F)).result (V3 m d)
/-- After the call: the result decoded. -/
def V5 (d : Dev nD) : Valuation τ sig (Elt F) := Function.update (V4 m d) o' (decArr (fxOf m d))

theorem V4_keeps (d : Dev nD) (b : DevRef τ sig) (h : b ∉ ({t', c', z', x'} : Finset (DevRef τ sig))) : V4 m d b = m (d, b) := by
  simp only [Finset.mem_insert, Finset.mem_singleton, not_or] at h
  unfold V4 V3 V2 V1
  rw [(opP (F := F)).result_of_not_mem _ (show b ∉ ({x'} : Finset (DevRef τ sig)) from fun e => h.2.2.2 (Finset.mem_singleton.mp e)),
    (opZ (F := F)).result_of_not_mem _ (show b ∉ ({z'} : Finset (DevRef τ sig)) from fun e => h.2.2.1 (Finset.mem_singleton.mp e)),
    (opC (F := F)).result_of_not_mem _ (show b ∉ ({c'} : Finset (DevRef τ sig)) from fun e => h.2.1 (Finset.mem_singleton.mp e)),
    (opT (F := F)).result_of_not_mem _ (show b ∉ ({t'} : Finset (DevRef τ sig)) from fun e => h.1 (Finset.mem_singleton.mp e))]
  rfl

theorem V3_t (d : Dev nD) : V3 m d t' = transpose S30x76x64x76 [1, 2, 0, 3] (m (aLoc d)) transposes_S64x30x76x76_S30x76x64x76_1_2_0_3 := by
  unfold V3 V2 V1
  rw [(opZ (F := F)).result_of_not_mem _ (show t' ∉ ({z'} : Finset (DevRef τ sig)) by decide),
    (opC (F := F)).result_of_not_mem _ (show t' ∉ ({c'} : Finset (DevRef τ sig)) by decide)]
  exact StableHlo.unary_result _ _ _ _ _ _
theorem V3_z (d : Dev nD) : V3 m d z' = sitofp .f32 (constantI S_ 32 0#32) := by
  unfold V3 V2
  refine (StableHlo.unary_result _ _ _ _ _ _).trans ?_
  rw [show (opC (F := F)).result (V1 m d) c' = _ from StableHlo.nullary_result _ _ _ _]
  rfl
theorem V4_x (d : Dev nD) : V4 m d x' = fxOf m d := by
  unfold V4
  refine (StableHlo.binary_result _ _ _ _ _ _ _ _).trans ?_
  rw [show V3 m d (Proc.devRef .tc (main_call0 : fn_pad.Bufs).v0.ref) = _ from V3_z m d]
  rw [show V3 m d (Proc.devRef .tc (StableHlo.TRef.of main_v0 : StableHlo.TRef sig ⟨S30x76x64x76, .f32⟩).ref) = _ from V3_t m d]
  rfl

theorem V5_at (d : Dev nD) : V5 m d o' = decArr (fxOf m d) := Function.update_self _ _ _
theorem V5_r (d : Dev nD) : V5 m d r' = m (rLoc d) :=
  (Function.update_of_ne (show r' ≠ o' by decide) _ _).trans (V4_keeps m d r' (by decide))

/-- The arrays before the call. -/
theorem held_V4 (d : Dev nD) :
    (held (SparseCore.T d) S7 (V4 m d) : sProp 𝕄)
      = iprop((aLoc d ↦{fullShare} m (aLoc d)) ∗ ((SparseCore.T d).loc main_v0 ↦{fullShare} V4 m d t') ∗ ((SparseCore.T d).loc main_c ↦{fullShare} V4 m d c')
          ∗ ((SparseCore.T d).loc main_call0_v0 ↦{fullShare} V4 m d z')
          ∗ (xCorePts d 0 (fxOf m d) ∗ xCorePts d 1 (fxOf m d)) ∗ (oCorePts d 0 (foOf m d) ∗ oCorePts d 1 (foOf m d)) ∗ rLoc d ↦{fullShare} m (rLoc d)) := by
  rw [held_S7, V4_keeps m d a' (by decide), V4_keeps m d o' (by decide), V4_keeps m d r' (by decide), V4_x,
    xPts_cores d (fxOf m d), oPts_cores d (foOf m d)]

/-- The last line's arrays, before it and after. -/
theorem held_V5 (d : Dev nD) :
    (held (SparseCore.T d) S2 (V5 m d) : sProp 𝕄)
      = iprop((oCorePts d 0 (decArr (fxOf m d)) ∗ oCorePts d 1 (decArr (fxOf m d))) ∗ rLoc d ↦{fullShare} m (rLoc d)) := by
  rw [held_S2, V5_at, V5_r, oPts_cores d (decArr (fxOf m d))]
theorem held_V6 (d : Dev nD) :
    (held (SparseCore.T d) S2 ((opR (F := F)).result (V5 m d)) : sProp 𝕄)
      = iprop((oLoc d ↦{fullShare} (opR (F := F)).result (V5 m d) o') ∗ rLoc d ↦{fullShare} result (m (aLoc d))) := by
  rw [held_S2, show (opR (F := F)).result (V5 m d) r' = result (m (aLoc d)) from
    (StableHlo.unary_result _ _ _ _ _ _).trans (by rw [V5_at]; rfl)]

theorem st0_eq (d : Dev nD) : (bigSep Finset.univ fun c : Fin ((K (F := F)).nCore 0) => (P m).st 0 d c)
    = iprop((xCorePts d 0 (fxOf m d) ∗ oCorePts d 0 (foOf m d)) ∗ (xCorePts d 1 (fxOf m d) ∗ oCorePts d 1 (foOf m d))) :=
  BI.bigSep_fin_two (fun c : Fin 2 => iprop(xCorePts d c (fxOf m d) ∗ oCorePts d c (foOf m d)))
theorem dn0_eq (d : Dev nD) : (bigSep Finset.univ fun c : Fin ((K (F := F)).nCore 0) => (P m).dn 0 d c)
    = iprop(oCorePts d 0 (decArr (fxOf m d)) ∗ oCorePts d 1 (decArr (fxOf m d))) :=
  BI.bigSep_fin_two (fun c : Fin 2 => oCorePts d c (decArr (fxOf m d)))

omit [FloatOps F] in
theorem hT : (opT (F := F)).bufs ⊆ S7 := show ({a', t'} : Finset (DevRef τ sig)) ⊆ S7 by decide
omit [FloatOps F] in
theorem hC : (opC (F := F)).bufs ⊆ S7 := show ({c'} : Finset (DevRef τ sig)) ⊆ S7 by decide
theorem hZ : (opZ (F := F)).bufs ⊆ S7 := show ({c', z'} : Finset (DevRef τ sig)) ⊆ S7 by decide
omit [FloatOps F] in
theorem hP : (opP (F := F)).bufs ⊆ S7 := show ({t', z', x'} : Finset (DevRef τ sig)) ⊆ S7 by decide
omit [FloatOps F] in
theorem hR : (opR (F := F)).bufs ⊆ S2 := show ({o', r'} : Finset (DevRef τ sig)) ⊆ S2 by decide

/-- What the run leaves the claims: the argument as it was, the result. -/
abbrev FIN (d : Dev nD) : sProp 𝕄 := iprop((aLoc d ↦{fullShare} m (aLoc d)) ∗ rLoc d ↦{fullShare} result (m (aLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opT) (S := S7) hT (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S7) hC (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opZ) (S := S7) hZ (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opP) (S := S7) hP (V := V3 m d)) $$ [Hb Hheld]
  · isplitl [Hb]; · iexact Hb
    iexact Hheld
  iintro ⟨Hb, Hheld⟩
  rw [wp_ret]; imodintro
  imodintro
  ihave Hh := (Entails.of_eq (show held (SparseCore.T d) S7 ((opP (F := F)).result (V3 m d)) = _ from held_V4 (F := F) m d)) $$ Hheld
  icases Hh with ⟨Ha, -, -, -, ⟨Hx0, Hx1⟩, ⟨Ho0, Ho1⟩, Hr⟩
  iapply ((K (F := F)).wp_run (D (F := F)) 𝒱 (EH := EH) (P := P m) κ d 0) $$ [Hst Ha Hx0 Hx1 Ho0 Ho1 Hr Hb Hts]
  isplitr; · iexact Hctx
  isplitl [Hst]; · iexact Hst
  isplitl [Hx0 Hx1 Ho0 Ho1]
  · rw [st0_eq]
    isplitl [Hx0 Ho0]
    · isplitl [Hx0]; · iexact Hx0
      iexact Ho0
    isplitl [Hx1]; · iexact Hx1
    iexact Ho1
  iintro ⟨Hst, Hdn⟩
  ihave Hdn' := (Entails.of_eq (dn0_eq m d)) $$ Hdn
  iapply (wp_hlo_within 𝒱 (SparseCore.T d) none Set.univ (op := opR) (S := S2) hR (V := V5 m d)) $$ [Hb Hdn' Hr]
  · isplitl [Hb]; · iexact Hb
    rw [held_V5]
    isplitl [Hdn']; · iexact Hdn'
    iexact Hr
  iintro ⟨Hb, Hheld⟩
  ihave Hh := (Entails.of_eq (held_V6 (F := F) m d)) $$ Hheld
  icases Hh with ⟨-, Hr⟩
  rw [wp_ret]; imodintro; imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = result (m (aLoc d))

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result (m (aLoc d)))) $$ [HSI Hr]
  · isplitl [HSI] <;> iassumption
  icases H with %h2
  ipureintro; exact ⟨funext fun i => h1 i (Finset.mem_univ i), funext fun i => h2 i (Finset.mem_univ i)⟩

/-! ## The program's run -/

/-- At the end the argument is as it was, the result is the decoding of it, and every counter reads zero. -/
def QC : PUnit × MemSt nD τ sig (Elt F) → Prop :=
  fun r => (∀ c : Dev nD, r.2.mem (aLoc c) = m (aLoc c) ∧ r.2.mem (rLoc c) = result (m (aLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Decode
-- ==== Proof.Frames.lean ====
/-
The three programs run to their end and leave their argument and their counters as they were.

The program and its reading at the ideal floats have one text, whose run is proved for any floats (Proof/Launch.lean);
the reference has no counters, and its run is the generated one.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Init

@[expose] public section

noncomputable section

namespace Cert.Proof

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).1, h.2⟩)
    (Cert.KernelIdeal.Decode.run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernel : Cert.quiescent_Kernel (hKernel := Cert.Kernel.Gen.facts) := fun m ρ _ =>
  (θ_run Cert.KernelIdeal.defs _ _).mono (fun _ h => ⟨fun c => (h.1 c).1, h.2⟩)
    (Cert.KernelIdeal.Decode.run_main (F := Bits) m ρ)

end Cert.Proof
-- ==== Proof.Reference.lean ====
/-
What the reference computes, at one place.

The reference's result is one long term of its argument. The file takes it apart: the argument laid out by anchor, row,
column and channel; one channel of it; its logistic; the grids; the anchors; the boxes; the four parts joined. Each is
read at an index, and together they say the result at one place in plain arithmetic of the extended reals (`spec`).
-/
module

public import proofs.«01_k».proof.Proof.Gen.ReferenceIdeal.Run
public import Idealize.ShloMosaic.Lib.Pointwise

@[expose] public section

noncomputable section

namespace Cert.ReferenceIdeal.Decode

open Cert.ReferenceIdeal Cert.ReferenceIdeal.Gen Cert.ReferenceIdeal.Value Idealize.ShloMosaic Idealize.ShloMosaic.TcCoe
  Idealize.SL.Sem Idealize.ShloMosaic.StableHlo

/-- Arrays of extended reals. -/
abbrev Arr (s : Shape) : Type := s.Idx → Ideal .f32

/-! ## The parts -/

/-- The argument laid out by anchor, row, column and channel. -/
def pred (a : Arr S64x30x76x76) : Arr S64x3x76x76x10 :=
  transpose S64x3x76x76x10 [0, 1, 3, 4, 2] (shapeCast S64x3x10x76x76 a shapeCasts_S64x30x76x76_S64x3x10x76x76)
    transposes_S64x3x10x76x76_S64x3x76x76x10_0_1_3_4_2

/-- One channel of it. -/
def chan (k : ℕ) (h : S64x3x76x76x10.Slices ![0, 0, 0, 0, k] S64x3x76x76x1) (a : Arr S64x30x76x76) : Arr S64x3x76x76 :=
  shapeCast S64x3x76x76 (extractStridedSlice S64x3x76x76x1 ![0, 0, 0, 0, k] (pred a) h) shapeCasts_S64x3x76x76x1_S64x3x76x76

/-- The logistic, as the reference writes it. -/
def logi {s : Shape} (h : S_.BroadcastsInDim s ![]) (x : Arr s) : Arr s :=
  Host.divf (broadcastInDim s ![] h (constant (F := Ideal) S_ .f32 0x3F800000#32))
    (addf (broadcastInDim s ![] h (constant (F := Ideal) S_ .f32 0x3F800000#32)) (Host.exp (Host.negf x)))

/-- The columns' numbers, in every row. -/
def gridRow : Arr S76x76 :=
  shapeCast S76x76 (broadcastInDim S76x1x1x76 ![0, 1, 2, 3] bcast_S1x1x1x76_S76x1x1x76_0_1_2_3
    (shapeCast S1x1x1x76 (shapeCast S1x76 (sitofp (F := Ideal) .f32 (iotaInDim S76 32 0)) shapeCasts_S76_S1x76) shapeCasts_S1x76_S1x1x1x76))
    shapeCasts_S76x1x1x76_S76x76
def gridX : Arr S64x3x76x76 :=
  broadcastInDim S64x3x76x76 ![0, 1, 2, 3] bcast_S1x1x76x76_S64x3x76x76_0_1_2_3 (shapeCast S1x1x76x76 gridRow shapeCasts_S76x76_S1x1x76x76)
def gridY : Arr S64x3x76x76 :=
  broadcastInDim S64x3x76x76 ![0, 1, 2, 3] bcast_S1x1x76x76_S64x3x76x76_0_1_2_3
    (shapeCast S1x1x76x76 (transpose S76x76 [1, 0] gridRow transposes_S76x76_S76x76_1_0) shapeCasts_S76x76_S1x1x76x76)

/-- The table's column of anchors. -/
def anchor (k : ℕ) (h : S3x4.Slices ![0, k] S3x1) : Arr S64x3x76x76 :=
  broadcastInDim S64x3x76x76 ![0, 1, 2, 3] bcast_S1x3x1x1_S64x3x76x76_0_1_2_3
    (shapeCast S1x3x1x1 (shapeCast S3 (extractStridedSlice S3x1 ![0, k] (fun i => FloatOps.ofBits (F := Ideal) .f32 (lit0 (S3x4.rowMajor i))) h)
      shapeCasts_S3x1_S3) shapeCasts_S3_S1x3x1x1)

/-- An array with a last axis of one. -/
def unit (x : Arr S64x3x76x76) : Arr S64x3x76x76x1 :=
  broadcastInDim S64x3x76x76x1 ![0, 1, 2, 3] bcast_S64x3x76x76_S64x3x76x76x1_0_1_2_3 x

/-- The six numbers of a box. -/
def boxes (a : Arr S64x30x76x76) : Arr S64x3x76x76x6 :=
  concatenate S64x3x76x76x6 4
    [⟨S64x3x76x76x1, unit (addf (F := Ideal) (φ := .f32) (logi bcast_S_S64x3x76x76 (chan 0 slices_S64x3x76x76x10_S64x3x76x76x1_0_0_0_0_0 a)) gridX)⟩,
      ⟨S64x3x76x76x1, unit (addf (F := Ideal) (φ := .f32) (logi bcast_S_S64x3x76x76 (chan 1 slices_S64x3x76x76x10_S64x3x76x76x1_0_0_0_0_1 a)) gridY)⟩,
      ⟨S64x3x76x76x1, unit (mulf (F := Ideal) (φ := .f32) (Host.exp (chan 2 slices_S64x3x76x76x10_S64x3x76x76x1_0_0_0_0_2 a)) (anchor 0 slices_S3x4_S3x1_0_0))⟩,
      ⟨S64x3x76x76x1, unit (mulf (F := Ideal) (φ := .f32) (Host.exp (chan 3 slices_S64x3x76x76x10_S64x3x76x76x1_0_0_0_0_3 a)) (anchor 1 slices_S3x4_S3x1_0_1))⟩,
      ⟨S64x3x76x76x1, unit (chan 4 slices_S64x3x76x76x10_S64x3x76x76x1_0_0_0_0_4 a)⟩,
      ⟨S64x3x76x76x1, unit (chan 5 slices_S64x3x76x76x10_S64x3x76x76x1_0_0_0_0_5 a)⟩]
    concatenates_S64x3x76x76x1_S64x3x76x76x1_S64x3x76x76x1_S64x3x76x76x1_S64x3x76x76x1_S64x3x76x76x1_S64x3x76x76x6_d4

/-- The four parts of the result. -/
def part0 (a : Arr S64x30x76x76) : Arr S64x17328x4 :=
  mulf (F := Ideal) (φ := .f32) (shapeCast S64x17328x4 (extractStridedSlice S64x3x76x76x4 ![0, 0, 0, 0, 0] (boxes a) slices_S64x3x76x76x6_S64x3x76x76x4_0_0_0_0_0)
    shapeCasts_S64x3x76x76x4_S64x17328x4) (broadcastInDim S64x17328x4 ![] bcast_S_S64x17328x4 (constant (F := Ideal) S_ .f32 0x41000000#32))
def part1 (a : Arr S64x30x76x76) : Arr S64x17328x2 :=
  shapeCast S64x17328x2 (extractStridedSlice S64x3x76x76x2 ![0, 0, 0, 0, 4] (boxes a) slices_S64x3x76x76x6_S64x3x76x76x2_0_0_0_0_4)
    shapeCasts_S64x3x76x76x2_S64x17328x2
def part2 (a : Arr S64x30x76x76) : Arr S64x17328x1 :=
  shapeCast S64x17328x1 (logi bcast_S_S64x3x76x76 (chan 6 slices_S64x3x76x76x10_S64x3x76x76x1_0_0_0_0_6 a)) shapeCasts_S64x3x76x76_S64x17328x1
def part3 (a : Arr S64x30x76x76) : Arr S64x17328x3 :=
  shapeCast S64x17328x3 (logi bcast_S_S64x3x76x76x3 (extractStridedSlice S64x3x76x76x3 ![0, 0, 0, 0, 7] (pred a) slices_S64x3x76x76x10_S64x3x76x76x3_0_0_0_0_7))
    shapeCasts_S64x3x76x76x3_S64x17328x3

/-- The result. -/
def out (a : Arr S64x30x76x76) : Arr S64x17328x10 :=
  concatenate S64x17328x10 2 [⟨S64x17328x4, part0 a⟩, ⟨S64x17328x2, part1 a⟩, ⟨S64x17328x1, part2 a⟩, ⟨S64x17328x3, part3 a⟩]
    concatenates_S64x17328x4_S64x17328x2_S64x17328x1_S64x17328x3_S64x17328x10_d2

theorem res_eq (m : (ℓ : Loc nD τ sig) → Buf (Elt Ideal) ℓ) (c : Dev nD) :
    res_out0 m c = out (m ((c.tc : Thread nD τ).loc main_arg0)) := rfl

/-! ## Each at an index -/

/-- The place in the argument of an anchor's channel. -/
def argIx (b : Fin 64) (n : Fin 3) (r l : Fin 76) (c : Fin 10) : S64x30x76x76.Idx :=
  ix4 b ⟨n.val * 10 + c.val, by omega⟩ r l

theorem pred_at (a : Arr S64x30x76x76) (b : Fin 64) (n : Fin 3) (r l : Fin 76) (c : Fin 10) :
    pred a (ix5 b n r l c) = a (argIx b n r l c) := by
  unfold pred argIx
  pointwise

theorem chan_at (k : ℕ) (hk : k < 10) (h) (a : Arr S64x30x76x76) (b : Fin 64) (n : Fin 3) (r l : Fin 76) :
    chan k h a (ix4 b n r l) = a (argIx b n r l ⟨k, hk⟩) := by
  unfold chan
  rw [← pred_at a b n r l ⟨k, hk⟩]
  refine (shapeCast_apply _ _ _ (ix5 b n r l 0) ?_).trans (extractStridedSlice_apply _ _ _ _ (ix5 b n r l ⟨k, hk⟩) ?_)
  · rw [Shape.rowMajor_val_five, Shape.rowMajor_val_four]; simp
  · intro x; fin_cases x <;> simp

theorem logi_at {s : Shape} (h) (x : Arr s) (i : s.Idx) : logi h x i = Ideal.logistic (x i) := by
  unfold logi Ideal.logistic
  pointwise

theorem gridRow_at (r l : Fin 76) : gridRow (ix2 r l) = ((l.val : ℝ) : EReal) := by
  unfold gridRow
  pointwise
  have e : (BitVec.ofNat 32 l.val).toInt = (l.val : ℤ) := by
    rw [BitVec.toInt_eq_toNat_of_lt] <;> simp <;> omega
  refine (show _ = (((BitVec.ofNat 32 l.val).toInt : ℝ) : EReal) from rfl).trans ?_
  rw [e]; rfl
theorem gridX_at (b : Fin 64) (n : Fin 3) (r l : Fin 76) : gridX (ix4 b n r l) = ((l.val : ℝ) : EReal) := by
  rw [← gridRow_at r l]
  unfold gridX
  pointwise
theorem gridY_at (b : Fin 64) (n : Fin 3) (r l : Fin 76) : gridY (ix4 b n r l) = ((r.val : ℝ) : EReal) := by
  rw [← gridRow_at l r]
  unfold gridY
  pointwise

/-- The anchors, in grid cells. -/
def size : Fin 3 → EReal
  | 0 => Ideal.ofBits .f32 0x3FB80000#32
  | 1 => Ideal.ofBits .f32 0x40373333#32
  | 2 => Ideal.ofBits .f32 0x40B73333#32

theorem lit_at (n : Fin 3) (k : Fin 2) :
    Ideal.ofBits .f32 (lit0 (S3x4.rowMajor (ix2 n ⟨k.val, by omega⟩))) = size n := by
  have e : S3x4.rowMajor (ix2 n ⟨k.val, by omega⟩) = (⟨n.val * 4 + k.val, by omega⟩ : Fin 12) :=
    Fin.ext ((Shape.rowMajor_val_two _).trans (by simp))
  rw [e]
  fin_cases n <;> fin_cases k <;> rfl

theorem anchor_at (k : ℕ) (hk : k < 2) (h) (b : Fin 64) (n : Fin 3) (r l : Fin 76) : anchor k h (ix4 b n r l) = size n := by
  rw [← lit_at n ⟨k, hk⟩]
  unfold anchor
  pointwise

theorem unit_at (x : Arr S64x3x76x76) (b : Fin 64) (n : Fin 3) (r l : Fin 76) (z : Fin 1) : unit x (ix5 b n r l z) = x (ix4 b n r l) := by
  unfold unit
  pointwise

/-- What channel `c` makes of the number `v` of anchor `n` at row `r` and column `l`. -/
def cell (n : Fin 3) (r l : Fin 76) (c : Fin 10) (v : EReal) : EReal :=
  match c with
  | 0 => (Ideal.logistic v + ((l.val : ℝ) : EReal)) * Ideal.ofBits .f32 0x41000000#32
  | 1 => (Ideal.logistic v + ((r.val : ℝ) : EReal)) * Ideal.ofBits .f32 0x41000000#32
  | 2 => Ideal.exp v * size n * Ideal.ofBits .f32 0x41000000#32
  | 3 => Ideal.exp v * size n * Ideal.ofBits .f32 0x41000000#32
  | 4 => v
  | 5 => v
  | 6 => Ideal.logistic v
  | 7 => Ideal.logistic v
  | 8 => Ideal.logistic v
  | 9 => Ideal.logistic v

/-- The six numbers of a box, in grid cells. -/
def box (n : Fin 3) (r l : Fin 76) (k : Fin 6) (v : EReal) : EReal :=
  match k with
  | 0 => Ideal.logistic v + ((l.val : ℝ) : EReal)
  | 1 => Ideal.logistic v + ((r.val : ℝ) : EReal)
  | 2 => Ideal.exp v * size n
  | 3 => Ideal.exp v * size n
  | 4 => v
  | 5 => v

theorem boxes_at (a : Arr S64x30x76x76) (b : Fin 64) (n : Fin 3) (r l : Fin 76) (k : Fin 6) :
    boxes a (ix5 b n r l k) = box n r l k (a (argIx b n r l ⟨k.val, by omega⟩)) := by
  unfold boxes
  fin_cases k <;> pointwise [unit_at, logi_at, gridX_at, gridY_at, chan_at, anchor_at]
  all_goals rfl

theorem part0_at (a : Arr S64x30x76x76) (b : Fin 64) (x : Fin 17328) (n : Fin 3) (r l : Fin 76) (hx : x.val = n.val * 5776 + r.val * 76 + l.val)
    (k : Fin 4) : part0 a (ix3 b x k) = box n r l ⟨k.val, by omega⟩ (a (argIx b n r l ⟨k.val, by omega⟩)) * Ideal.ofBits .f32 0x41000000#32 := by
  rw [← boxes_at a b n r l ⟨k.val, by omega⟩]
  refine congrArg (· * Ideal.ofBits .f32 0x41000000#32) ((shapeCast_apply _ _ _ (ix5 b n r l k) ?_).trans (extractStridedSlice_apply _ _ _ _ _ ?_))
  · rw [Shape.rowMajor_val_five, Shape.rowMajor_val_three]; simp; omega
  · intro x; fin_cases x <;> simp

theorem part1_at (a : Arr S64x30x76x76) (b : Fin 64) (x : Fin 17328) (n : Fin 3) (r l : Fin 76) (hx : x.val = n.val * 5776 + r.val * 76 + l.val)
    (k : Fin 2) : part1 a (ix3 b x k) = box n r l ⟨4 + k.val, by omega⟩ (a (argIx b n r l ⟨4 + k.val, by omega⟩)) := by
  rw [← boxes_at a b n r l ⟨4 + k.val, by omega⟩]
  refine (shapeCast_apply _ _ _ (ix5 b n r l k) ?_).trans (extractStridedSlice_apply _ _ _ _ _ ?_)
  · rw [Shape.rowMajor_val_five, Shape.rowMajor_val_three]; simp; omega
  · intro x; fin_cases x <;> simp

theorem part2_at (a : Arr S64x30x76x76) (b : Fin 64) (x : Fin 17328) (n : Fin 3) (r l : Fin 76) (hx : x.val = n.val * 5776 + r.val * 76 + l.val)
    (k : Fin 1) : part2 a (ix3 b x k) = Ideal.logistic (a (argIx b n r l 6)) := by
  refine (shapeCast_apply _ _ _ (ix4 b n r l) ?_).trans ((logi_at _ _ _).trans (congrArg _ (chan_at 6 (by decide) _ a b n r l)))
  rw [Shape.rowMajor_val_four, Shape.rowMajor_val_three]; simp; omega

theorem part3_at (a : Arr S64x30x76x76) (b : Fin 64) (x : Fin 17328) (n : Fin 3) (r l : Fin 76) (hx : x.val = n.val * 5776 + r.val * 76 + l.val)
    (k : Fin 3) : part3 a (ix3 b x k) = Ideal.logistic (a (argIx b n r l ⟨7 + k.val, by omega⟩)) := by
  refine (shapeCast_apply _ _ _ (ix5 b n r l k) ?_).trans ((logi_at _ _ _).trans (congrArg _ ?_))
  · rw [Shape.rowMajor_val_five, Shape.rowMajor_val_three]; simp; omega
  · rw [← pred_at a b n r l ⟨7 + k.val, by omega⟩]
    refine extractStridedSlice_apply _ _ _ _ _ ?_
    intro x; fin_cases x <;> simp

/-- The result at one place. -/
theorem out_at (a : Arr S64x30x76x76) (b : Fin 64) (x : Fin 17328) (n : Fin 3) (r l : Fin 76)
    (hx : x.val = n.val * 5776 + r.val * 76 + l.val) (c : Fin 10) :
    out a (ix3 b x c) = cell n r l c (a (argIx b n r l c)) := by
  have h0 := part0_at a b x n r l hx
  have h1 := part1_at a b x n r l hx
  have h2 := part2_at a b x n r l hx
  have h3 := part3_at a b x n r l hx
  unfold out
  fin_cases c <;> pointwise [h0, h1, h2, h3]
  all_goals rfl

end Cert.ReferenceIdeal.Decode
-- ==== Proof.Equation.lean ====
/-
The kernel's result is the reference's.

At the ideal floats the kernel's recoding of one number is the reference's (`decS_eq`): the logistic is a real number, so
eight times a sum is the sum of the eightfolds, and the kernel's anchors are eight times the reference's. The layouts agree
too, and so do the results (`result_eq`).
-/
module

public import proofs.«01_k».proof.Proof.Launch
public import proofs.«01_k».proof.Proof.Reference

@[expose] public section

noncomputable section

namespace Cert.KernelIdeal.Decode

open Idealize.ShloMosaic Idealize.SL.Sem Cert.KernelIdeal.Gen
open Cert.ReferenceIdeal.Decode (cell size argIx out out_at)

/-! ## Constants -/

theorem f_eight : Ideal.ofBits .f32 0x41000000#32 = ((8 : ℝ) : EReal) := by
  simp [Ideal.ofBits, Ideal.ieee, -EReal.coe_mul]; norm_num
theorem f_col (j : Fin 5) : Ideal.ofBits .f32 (colB j) = ((col0 j : ℝ) : EReal) := by
  fin_cases j <;> simp [colB, col0, Ideal.ofBits, Ideal.ieee, -EReal.coe_mul] <;> norm_num

/-- The anchor in pixels. -/
def pix : Fin 3 → BitVec 32
  | 0 => 0x41380000#32
  | 1 => 0x41B73333#32
  | 2 => 0x42373333#32
theorem f_anchor (n : Fin 3) : Ideal.ofBits .f32 (pix n) = size n * ((8 : ℝ) : EReal) := by
  fin_cases n <;> simp [pix, size, Ideal.ofBits, Ideal.ieee, -EReal.coe_mul] <;> rw [← EReal.coe_mul] <;> norm_num

/-! ## A trip's numbers -/

/-- The trip's anchor and its row of the grid. -/
def anchorOf (t : Fin 228) : Fin 3 := ⟨t.val / 76, by omega⟩
def rowIn (t : Fin 228) : Fin 76 := ⟨t.val % 76, Nat.mod_lt _ (by omega)⟩

theorem gy_int : ∀ t : Fin 228, (Scalar.subi (tripW t)
    (Scalar.muli (Scalar.addi (Scalar.extui (Scalar.cmpi .sge (tripW t) 76#32))
      (Scalar.extui (Scalar.cmpi .sge (tripW t) 152#32))) 76#32)).toInt = ((t.val % 76 : ℕ) : ℤ) := by decide +kernel
theorem anc_cmp : ∀ t : Fin 228,
    (if Scalar.cmpi .slt (tripW t) 76#32 = 1#1 then 0 else if Scalar.cmpi .slt (tripW t) 152#32 = 1#1 then 1 else 2) = anchorOf t := by
  decide +kernel
theorem col_lane : ∀ col : Fin 76, col0 (jOf col.val) + (laneOf col.val).val = col.val := by decide

theorem gy8_eq (t : Fin 228) : gy8 (F := Ideal) t = (((rowIn t).val : ℝ) : EReal) * ((8 : ℝ) : EReal) := by
  rw [← f_eight, show (((rowIn t).val : ℝ) : EReal) = ((((t.val % 76 : ℕ) : ℤ) : ℝ) : EReal) from rfl, ← gy_int t]
  rfl

theorem select_pix (c1 c2 : BitVec 1) :
    Scalar.select c1 (Scalar.ofBits (F := Ideal) .f32 0x41380000#32)
        (Scalar.select c2 (Scalar.ofBits .f32 0x41B73333#32) (Scalar.ofBits .f32 0x42373333#32))
      = Ideal.ofBits .f32 (pix (if c1 = 1#1 then 0 else if c2 = 1#1 then 1 else 2)) := by
  by_cases h1 : c1 = 1#1
  · subst h1; simp [Scalar.select, pix]
  · by_cases h2 : c2 = 1#1
    · subst h2; simp [Scalar.select, pix, h1]
    · simp [Scalar.select, pix, h1, h2]

theorem anc_eq (t : Fin 228) : anc (F := Ideal) t = size (anchorOf t) * ((8 : ℝ) : EReal) := by
  rw [← f_anchor, ← anc_cmp t, ← select_pix]
  rfl

theorem lane_eq (l : Fin 16) : k0_pay106 (F := Ideal) (ix1 l) = ((l.val : ℝ) : EReal) := by
  have e : ∀ l : Fin 16, (BitVec.ofNat 32 l.val).toInt = (l.val : ℤ) := by decide
  unfold k0_pay106
  pointwise
  refine (show _ = (((BitVec.ofNat 32 l.val).toInt : ℝ) : EReal) from rfl).trans ?_
  rw [e]; rfl

/-! ## The logistic -/

theorem logistic_real (v : EReal) : ∃ y : ℝ, Ideal.logistic v = (y : EReal) := by
  induction v using EReal.rec with
  | bot => exact ⟨0, Ideal.logistic_bot⟩
  | coe r => exact ⟨_, Ideal.logistic_coe r⟩
  | top => exact ⟨1, Ideal.logistic_top⟩

theorem sigV_eq (w : FVec Ideal S16 .f32) (i : S16.Idx) : sigV w i = Ideal.logistic (w i) := by
  unfold sigV Ideal.logistic
  pointwise
  rw [zero_sub]

/-! ## One number -/

theorem decS_eq (c : Fin 10) (t : Fin 228) (col : Fin 76) (v : EReal) :
    decS (F := Ideal) c t col v = cell (anchorOf t) (rowIn t) col c v := by
  obtain ⟨y, hy⟩ := logistic_real v
  have hc := col_lane col
  unfold decS
  fin_cases c <;> pointwise [decV, cell, sigV_eq, lane_eq, gy8_eq, anc_eq, f_eight, f_col, hy]
  · have h : ((col0 (jOf col.val) : ℕ) : ℝ) + ((laneOf col.val).val : ℝ) = (col.val : ℝ) := by exact_mod_cast hc
    simp only [← EReal.coe_mul, ← EReal.coe_add]
    exact congrArg _ (by linear_combination 8 * h)
  · simp only [← EReal.coe_mul, ← EReal.coe_add]
    exact congrArg _ (by ring)
  all_goals exact (mul_assoc _ _ _).symm

theorem padded_at (a : S64x30x76x76.Idx → Ideal .f32) (c : Fin 10) (t : Fin 228) (b : Fin 64) (l : Fin 76) :
    padded a (srcIx c t b l) = a (argIx b (anchorOf t) (rowIn t) l c) := by
  unfold padded srcIx argIx anchorOf rowIn
  pointwise
  exact dif_pos ⟨by omega, by omega⟩

theorem result_eq (a : S64x30x76x76.Idx → Ideal .f32) : result a = out a := by
  funext i
  obtain ⟨b, x, c, rfl⟩ : ∃ b x c, i = ix3 b x c := ⟨i 0, i 1, i 2, by funext a; fin_cases a <;> rfl⟩
  rw [out_at a b x (anchorOf (rowOf (ix1 x))) (rowIn (rowOf (ix1 x))) (colOf (ix1 x)) (by simp [anchorOf, rowIn, rowOf, colOf]; omega) c,
    ← decS_eq c (rowOf (ix1 x)), ← padded_at a c (rowOf (ix1 x)) b]
  unfold result
  pointwise [decArr]

end Cert.KernelIdeal.Decode
-- ==== Proof.lean ====
/-
The certificate's claim: the three programs run to their end with their argument and counters as they were, and the
kernel's result is the reference's at the ideal floats.
-/
module

public import proofs.«01_k».proof.Defs
public import proofs.«01_k».proof.Proof.Frames
public import proofs.«01_k».proof.Proof.Equation

@[expose] public section

noncomputable section

namespace Cert.Proof

open Idealize.ShloMosaic Idealize.SL.Sem

/-- The kernel's result is the reference's: both are the reference's term of the argument. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Decode.result (F := Ideal) (m (Cert.KernelIdeal.Decode.aLoc c)), ?_, ?_⟩
  · exact (θ_run Cert.KernelIdeal.defs _ _).mono (fun _ h c => ⟨(h.1 c).2, (h.1 c).1⟩)
      (Cert.KernelIdeal.Decode.run_main (F := Ideal) m ρ)
  · refine (θ_run Cert.ReferenceIdeal.defs _ _).mono (fun _ h c => ⟨(h c).1.trans ?_, (h c).2⟩)
      (Cert.ReferenceIdeal.Value.run (F := Ideal) m' ρ')
    exact (Cert.ReferenceIdeal.Decode.res_eq m' c).trans ((congrArg Cert.ReferenceIdeal.Decode.out (hagree c)).trans
      (Cert.KernelIdeal.Decode.result_eq (m (Cert.KernelIdeal.Decode.aLoc c))).symm)

theorem claim : Cert.Claim := ⟨Cert.Kernel.Gen.facts, Cert.KernelIdeal.Gen.facts, Cert.ReferenceIdeal.Gen.facts,
  frame_kernel, frame_ideal, frame_reference, trivial, value⟩

end Cert.Proof

end
